-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v352) = v0 c
          ∧ r.2.mem ((c.tc : Thread Cert.ReferenceIdeal.nD Cert.ReferenceIdeal.τ).loc Cert.ReferenceIdeal.main_v329) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x48x48x48 : Shape := ⟨4, ![4, 48, 48, 48]⟩
abbrev S6x4x48x4608 : Shape := ⟨4, ![6, 4, 48, 4608]⟩
abbrev S1x1x48x4608 : Shape := ⟨4, ![1, 1, 48, 4608]⟩
abbrev S1x48x48x48 : Shape := ⟨4, ![1, 48, 48, 48]⟩
abbrev S48x48x48 : Shape := ⟨3, ![48, 48, 48]⟩
abbrev S1x48x48 : Shape := ⟨3, ![1, 48, 48]⟩
abbrev S47x48x48 : Shape := ⟨3, ![47, 48, 48]⟩
abbrev S48x48x48x1 : Shape := ⟨4, ![48, 48, 48, 1]⟩
abbrev S48x48x48x2 : Shape := ⟨4, ![48, 48, 48, 2]⟩
abbrev S48x48x96 : Shape := ⟨3, ![48, 48, 96]⟩
abbrev S48x4608 : Shape := ⟨2, ![48, 4608]⟩
abbrev S48x1x48 : Shape := ⟨3, ![48, 1, 48]⟩
abbrev S48x47x48 : Shape := ⟨3, ![48, 47, 48]⟩
abbrev S48x48x1 : Shape := ⟨3, ![48, 48, 1]⟩
abbrev S48x48x47 : Shape := ⟨3, ![48, 48, 47]⟩
abbrev S6x192x4608 : Shape := ⟨3, ![6, 192, 4608]⟩
abbrev S3x41472x128 : Shape := ⟨3, ![3, 41472, 128]⟩
abbrev S4x49x7203 : Shape := ⟨3, ![4, 49, 7203]⟩
abbrev S1x192x4608 : Shape := ⟨3, ![1, 192, 4608]⟩
abbrev S1x2304x128 : Shape := ⟨3, ![1, 2304, 128]⟩
abbrev S1x49x7203 : Shape := ⟨3, ![1, 49, 7203]⟩
abbrev S2304x128 : Shape := ⟨2, ![2304, 128]⟩
abbrev S49x7203 : Shape := ⟨2, ![49, 7203]⟩
abbrev S1x16x4608 : Shape := ⟨3, ![1, 16, 4608]⟩
abbrev S16x4608 : Shape := ⟨2, ![16, 4608]⟩
abbrev S576x128 : Shape := ⟨2, ![576, 128]⟩
abbrev S576x1x128 : Shape := ⟨3, ![576, 1, 128]⟩
abbrev S576x4x128 : Shape := ⟨3, ![576, 4, 128]⟩
abbrev S2 : Shape := ⟨1, ![2]⟩
abbrev S1 : Shape := ⟨1, ![1]⟩
abbrev S3x10368x4x128 : Shape := ⟨4, ![3, 10368, 4, 128]⟩
abbrev S4x10368x128x3 : Shape := ⟨4, ![4, 10368, 128, 3]⟩
abbrev S4x1327104x3 : Shape := ⟨3, ![4, 1327104, 3]⟩
abbrev S4x117649x3 : Shape := ⟨3, ![4, 117649, 3]⟩

abbrev nBuf : Space → Nat
  | .hbm => 9
  | .vmem => 11
  | .smem => 0
  | _ => 0

abbrev bufTy : (tb : Table) → Fin (tcTables nBuf tb) → BufTy
  | .hbm, ⟨0, _⟩ => ⟨S4x48x48x48, .f32⟩
  | .hbm, ⟨1, _⟩ => ⟨S6x4x48x4608, .bf16⟩
  | .hbm, ⟨2, _⟩ => ⟨S6x192x4608, .bf16⟩
  | .hbm, ⟨3, _⟩ => ⟨S3x41472x128, .i32⟩
  | .hbm, ⟨4, _⟩ => ⟨S4x49x7203, .f32⟩
  | .hbm, ⟨5, _⟩ => ⟨S3x10368x4x128, .i32⟩
  | .hbm, ⟨6, _⟩ => ⟨S4x10368x128x3, .i32⟩
  | .hbm, ⟨7, _⟩ => ⟨S4x1327104x3, .i32⟩
  | .hbm, ⟨8, _⟩ => ⟨S4x117649x3, .f32⟩
  | .local _ .vmem, ⟨0, _⟩ => ⟨S4x48x48x48, .f32⟩
  | .local _ .vmem, ⟨1, _⟩ => ⟨S1x1x48x4608, .bf16⟩
  | .local _ .vmem, ⟨2, _⟩ => ⟨S1x1x48x4608, .bf16⟩
  | .local _ .vmem, ⟨3, _⟩ => ⟨S1x192x4608, .bf16⟩
  | .local _ .vmem, ⟨4, _⟩ => ⟨S1x192x4608, .bf16⟩
  | .local _ .vmem, ⟨5, _⟩ => ⟨S1x2304x128, .i32⟩
  | .local _ .vmem, ⟨6, _⟩ => ⟨S1x2304x128, .i32⟩
  | .local _ .vmem, ⟨7, _⟩ => ⟨S1x49x7203, .f32⟩
  | .local _ .vmem, ⟨8, _⟩ => ⟨S1x49x7203, .f32⟩
  | .local _ .vmem, ⟨9, _⟩ => ⟨S2304x128, .i32⟩
  | .local _ .vmem, ⟨10, _⟩ => ⟨S49x7203, .f32⟩
  | _, _ => ⟨S4x48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc1_scratch1 : Ref sig .tc := ⟨.vmem, 10, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![6, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v18 : Index := Scalar.indexCast arg1
  let c0 : Index := 0#32
  let c0_6 : Index := 0#32
  let c0_7 : Index := 0#32
  ![v18.toNat, 0, 0, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 4 → Nat :=
  let arg1 : BitVec 32 := BitVec.ofNat 32 (i 1).val
  let v18 : Index := Scalar.indexCast arg1
  let c0 : Index := 0#32
  let c0_6 : Index := 0#32
  let c0_7 : Index := 0#32
  ![v18.toNat, 0, 0, 0]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_off3 (i : grid0.Coords) : Fin 4 → Nat :=
  let arg1 : BitVec 32 := BitVec.ofNat 32 (i 1).val
  let v18 : Index := Scalar.indexCast arg1
  let c0 : Index := 0#32
  let c0_6 : Index := 0#32
  let c0_7 : Index := 0#32
  ![v18.toNat, 0, 0, 0]
def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_off4 (i : grid0.Coords) : Fin 4 → Nat :=
  let arg1 : BitVec 32 := BitVec.ofNat 32 (i 1).val
  let v18 : Index := Scalar.indexCast arg1
  let c0 : Index := 0#32
  let c0_6 : Index := 0#32
  let c0_7 : Index := 0#32
  ![v18.toNat, 0, 0, 0]
def k0_cond5 (i : grid0.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_4 : BitVec 32 := 0#32
  let v14 : BitVec 1 := Scalar.cmpi .ne v13 c0_i32_4
  v14

def k0_off5 (i : grid0.Coords) : Fin 4 → Nat :=
  let arg1 : BitVec 32 := BitVec.ofNat 32 (i 1).val
  let v18 : Index := Scalar.indexCast arg1
  let c0 : Index := 0#32
  let c0_6 : Index := 0#32
  let c0_7 : Index := 0#32
  ![v18.toNat, 0, 0, 0]
def k0_cond6 (i : grid0.Coords) : BitVec 1 :=
  let arg0 : BitVec 32 := BitVec.ofNat 32 (i 0).val
  let c5_i32 : BitVec 32 := 5#32
  let v15 : BitVec 1 := Scalar.cmpi .eq arg0 c5_i32
  let v16 : BitVec 32 := Scalar.extui v15
  let c0_i32_5 : BitVec 32 := 0#32
  let v17 : BitVec 1 := Scalar.cmpi .ne v16 c0_i32_5
  v17

def k0_off6 (i : grid0.Coords) : Fin 4 → Nat :=
  let arg1 : BitVec 32 := BitVec.ofNat 32 (i 1).val
  let v18 : Index := Scalar.indexCast arg1
  let c0 : Index := 0#32
  let c0_6 : Index := 0#32
  let c0_7 : Index := 0#32
  ![v18.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S4x48x48x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x48x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![18, 3], ![false, false]⟩

def k1_off1 (i : grid1.Coords) (c0_i32_13 : BitVec 32) : Fin 3 → Nat :=
  let c0 : Index := 0#32
  let arg0 : BitVec 32 := BitVec.ofNat 32 (i 0).val
  let c3_i32 : BitVec 32 := 3#32
  let c0_i32_2 : BitVec 32 := 0#32
  let v5 : BitVec 1 := Scalar.cmpi .eq c3_i32 c0_i32_2
  let c1_i32 : BitVec 32 := 1#32
  let v6 : BitVec 32 := Scalar.select v5 c1_i32 c3_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c16_i32 : BitVec 32 := 16#32
  let v32 : BitVec 32 := Scalar.muli v14 c16_i32
  let v33 : BitVec 32 := Scalar.addi c0_i32_13 v32
  let v34 : Index := Scalar.indexCast v33
  let c0_14 : Index := 0#32
  ![0, v34.toNat, 0]
def k1_cond7 (i : grid1.Coords) : BitVec 1 :=
  let arg0 : BitVec 32 := BitVec.ofNat 32 (i 0).val
  let c5_i32_36 : BitVec 32 := 5#32
  let c0_i32_37 : BitVec 32 := 0#32
  let v93 : BitVec 1 := Scalar.cmpi .eq c5_i32_36 c0_i32_37
  let c1_i32_38 : BitVec 32 := 1#32
  let v94 : BitVec 32 := Scalar.select v93 c1_i32_38 c5_i32_36
  let v95 : BitVec 32 := Scalar.remsi arg0 v94
  let c0_i32_40 : BitVec 32 := 0#32
  let v97 : BitVec 1 := Scalar.cmpi .slt v95 c0_i32_40
  let c0_i32_41 : BitVec 32 := 0#32
  let v98 : BitVec 1 := Scalar.cmpi .slt v94 c0_i32_41
  let v99 : BitVec 1 := Scalar.xori v97 v98
  let c0_i32_39 : BitVec 32 := 0#32
  let v96 : BitVec 1 := Scalar.cmpi .ne v95 c0_i32_39
  let v100 : BitVec 1 := Scalar.andi v99 v96
  let v101 : BitVec 32 := Scalar.addi v95 v94
  let v102 : BitVec 32 := Scalar.select v100 v101 v95
  let c0_i32_42 : BitVec 32 := 0#32
  let v103 : BitVec 1 := Scalar.cmpi .eq v102 c0_i32_42
  let arg1 : BitVec 32 := BitVec.ofNat 32 (i 1).val
  let c0_i32_43 : BitVec 32 := 0#32
  let v104 : BitVec 1 := Scalar.cmpi .eq arg1 c0_i32_43
  let v105 : BitVec 1 := Scalar.andi v103 v104
  let v106 : BitVec 32 := Scalar.extui v105
  let c0_i32_44 : BitVec 32 := 0#32
  let v107 : BitVec 1 := Scalar.cmpi .ne v106 c0_i32_44
  v107

def cc1_transform_0 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage1_0 : Fin 2 → Memref sig .tc .vmem S1x192x4608 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2304x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x49x7203 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S4x48x48x48 : Shape := ⟨4, ![4, 48, 48, 48]⟩
abbrev S_ : Shape := ⟨0, ![]⟩
abbrev S4x1x48x48 : Shape := ⟨4, ![4, 1, 48, 48]⟩
abbrev S4x47x48x48 : Shape := ⟨4, ![4, 47, 48, 48]⟩
abbrev S4x48x1x48 : Shape := ⟨4, ![4, 48, 1, 48]⟩
abbrev S4x48x47x48 : Shape := ⟨4, ![4, 48, 47, 48]⟩
abbrev S4x48x48x1 : Shape := ⟨4, ![4, 48, 48, 1]⟩
abbrev S4x48x48x47 : Shape := ⟨4, ![4, 48, 48, 47]⟩
abbrev S4x1x48x48x48 : Shape := ⟨5, ![4, 1, 48, 48, 48]⟩
abbrev S4x6x48x48x48 : Shape := ⟨5, ![4, 6, 48, 48, 48]⟩
abbrev S48 : Shape := ⟨1, ![48]⟩
abbrev S48x48x48 : Shape := ⟨3, ![48, 48, 48]⟩
abbrev S48x48x48x1 : Shape := ⟨4, ![48, 48, 48, 1]⟩
abbrev S48x48x48x3 : Shape := ⟨4, ![48, 48, 48, 3]⟩
abbrev S48x48x48x1x3 : Shape := ⟨5, ![48, 48, 48, 1, 3]⟩
abbrev S48x48x48x2x3 : Shape := ⟨5, ![48, 48, 48, 2, 3]⟩
abbrev S1x48x48x48x2x3 : Shape := ⟨6, ![1, 48, 48, 48, 2, 3]⟩
abbrev S6x48x48x48x2x3 : Shape := ⟨6, ![6, 48, 48, 48, 2, 3]⟩
abbrev S1327104x3 : Shape := ⟨2, ![1327104, 3]⟩
abbrev S4x6x48x48x48x1 : Shape := ⟨6, ![4, 6, 48, 48, 48, 1]⟩
abbrev S4x6x48x48x48x1x2 : Shape := ⟨7, ![4, 6, 48, 48, 48, 1, 2]⟩
abbrev S4x6x48x48x48x2 : Shape := ⟨6, ![4, 6, 48, 48, 48, 2]⟩
abbrev S4x1327104 : Shape := ⟨2, ![4, 1327104]⟩
abbrev S4x1327104x1 : Shape := ⟨3, ![4, 1327104, 1]⟩
abbrev S1x1327104x3 : Shape := ⟨3, ![1, 1327104, 3]⟩
abbrev S4x1327104x3 : Shape := ⟨3, ![4, 1327104, 3]⟩
abbrev S49 : Shape := ⟨1, ![49]⟩
abbrev S49x49x49 : Shape := ⟨3, ![49, 49, 49]⟩
abbrev S49x49x49x1 : Shape := ⟨4, ![49, 49, 49, 1]⟩
abbrev S49x49x49x3 : Shape := ⟨4, ![49, 49, 49, 3]⟩
abbrev S117649x3 : Shape := ⟨2, ![117649, 3]⟩
abbrev S1x117649x3 : Shape := ⟨3, ![1, 117649, 3]⟩
abbrev S4x117649x3 : Shape := ⟨3, ![4, 117649, 3]⟩

abbrev nBuf : Space → Nat
  | .hbm => 459
  | .vmem => 0
  | .smem => 0
  | _ => 0

abbrev hbmTy0_0 (i : Nat) : BufTy := match i % 128 with
  | 0 => ⟨S4x48x48x48, .f32⟩
  | 1 => ⟨S_, .f32⟩
  | 2 => ⟨S4x48x48x48, .f32⟩
  | 3 => ⟨S4x48x48x48, .i1⟩
  | 4 => ⟨S4x1x48x48, .i1⟩
  | 5 => ⟨S4x47x48x48, .i1⟩
  | 6 => ⟨S4x48x48x48, .i1⟩
  | 7 => ⟨S4x47x48x48, .i1⟩
  | 8 => ⟨S4x1x48x48, .i1⟩
  | 9 => ⟨S4x48x48x48, .i1⟩
  | 10 => ⟨S4x48x1x48, .i1⟩
  | 11 => ⟨S4x48x47x48, .i1⟩
  | 12 => ⟨S4x48x48x48, .i1⟩
  | 13 => ⟨S4x48x47x48, .i1⟩
  | 14 => ⟨S4x48x1x48, .i1⟩
  | 15 => ⟨S4x48x48x48, .i1⟩
  | 16 => ⟨S4x48x48x1, .i1⟩
  | 17 => ⟨S4x48x48x47, .i1⟩
  | 18 => ⟨S4x48x48x48, .i1⟩
  | 19 => ⟨S4x48x48x47, .i1⟩
  | 20 => ⟨S4x48x48x1, .i1⟩
  | 21 => ⟨S4x48x48x48, .i1⟩
  | 22 => ⟨S4x48x48x48, .i1⟩
  | 23 => ⟨S4x48x48x48, .i1⟩
  | 24 => ⟨S4x48x48x48, .i1⟩
  | 25 => ⟨S4x48x48x48, .i1⟩
  | 26 => ⟨S4x48x48x48, .i1⟩
  | 27 => ⟨S4x48x48x48, .i1⟩
  | 28 => ⟨S4x48x48x48, .i1⟩
  | 29 => ⟨S4x48x48x48, .i1⟩
  | 30 => ⟨S4x48x48x48, .i1⟩
  | 31 => ⟨S4x48x48x48, .i1⟩
  | 32 => ⟨S4x48x48x48, .i1⟩
  | 33 => ⟨S4x48x48x48, .i1⟩
  | 34 => ⟨S4x1x48x48x48, .i1⟩
  | 35 => ⟨S4x1x48x48x48, .i1⟩
  | 36 => ⟨S4x1x48x48x48, .i1⟩
  | 37 => ⟨S4x1x48x48x48, .i1⟩
  | 38 => ⟨S4x1x48x48x48, .i1⟩
  | 39 => ⟨S4x1x48x48x48, .i1⟩
  | 40 => ⟨S4x6x48x48x48, .i1⟩
  | 41 => ⟨S48, .i32⟩
  | 42 => ⟨S48, .i32⟩
  | 43 => ⟨S48, .i32⟩
  | 44 => ⟨S48x48x48, .i32⟩
  | 45 => ⟨S48x48x48, .i32⟩
  | 46 => ⟨S48x48x48, .i32⟩
  | 47 => ⟨S_, .i32⟩
  | 48 => ⟨S48x48x48, .i32⟩
  | 49 => ⟨S48x48x48, .i32⟩
  | 50 => ⟨S48x48x48, .i32⟩
  | 51 => ⟨S_, .i32⟩
  | 52 => ⟨S48x48x48, .i32⟩
  | 53 => ⟨S48x48x48, .i32⟩
  | 54 => ⟨S48x48x48, .i32⟩
  | 55 => ⟨S_, .i32⟩
  | 56 => ⟨S48x48x48, .i32⟩
  | 57 => ⟨S48x48x48, .i32⟩
  | 58 => ⟨S_, .i32⟩
  | 59 => ⟨S48x48x48, .i32⟩
  | 60 => ⟨S48x48x48, .i32⟩
  | 61 => ⟨S48x48x48, .i32⟩
  | 62 => ⟨S_, .i32⟩
  | 63 => ⟨S48x48x48, .i32⟩
  | 64 => ⟨S48x48x48, .i32⟩
  | 65 => ⟨S48x48x48, .i32⟩
  | 66 => ⟨S_, .i32⟩
  | 67 => ⟨S48x48x48, .i32⟩
  | 68 => ⟨S48x48x48, .i32⟩
  | 69 => ⟨S_, .i32⟩
  | 70 => ⟨S48x48x48, .i32⟩
  | 71 => ⟨S48x48x48, .i32⟩
  | 72 => ⟨S48x48x48, .i32⟩
  | 73 => ⟨S_, .i32⟩
  | 74 => ⟨S48x48x48, .i32⟩
  | 75 => ⟨S48x48x48, .i32⟩
  | 76 => ⟨S48x48x48, .i32⟩
  | 77 => ⟨S_, .i32⟩
  | 78 => ⟨S48x48x48, .i32⟩
  | 79 => ⟨S48x48x48, .i32⟩
  | 80 => ⟨S_, .i32⟩
  | 81 => ⟨S48x48x48, .i32⟩
  | 82 => ⟨S48x48x48, .i32⟩
  | 83 => ⟨S_, .i32⟩
  | 84 => ⟨S48x48x48, .i32⟩
  | 85 => ⟨S48x48x48, .i32⟩
  | 86 => ⟨S48x48x48, .i32⟩
  | 87 => ⟨S_, .i32⟩
  | 88 => ⟨S48x48x48, .i32⟩
  | 89 => ⟨S48x48x48, .i32⟩
  | 90 => ⟨S48x48x48, .i32⟩
  | 91 => ⟨S_, .i32⟩
  | 92 => ⟨S48x48x48, .i32⟩
  | 93 => ⟨S48x48x48, .i32⟩
  | 94 => ⟨S_, .i32⟩
  | 95 => ⟨S48x48x48, .i32⟩
  | 96 => ⟨S48x48x48, .i32⟩
  | 97 => ⟨S48x48x48, .i32⟩
  | 98 => ⟨S_, .i32⟩
  | 99 => ⟨S48x48x48, .i32⟩
  | 100 => ⟨S48x48x48, .i32⟩
  | 101 => ⟨S48x48x48, .i32⟩
  | 102 => ⟨S_, .i32⟩
  | 103 => ⟨S48x48x48, .i32⟩
  | 104 => ⟨S48x48x48, .i32⟩
  | 105 => ⟨S_, .i32⟩
  | 106 => ⟨S48x48x48, .i32⟩
  | 107 => ⟨S48x48x48, .i32⟩
  | 108 => ⟨S_, .i32⟩
  | 109 => ⟨S48x48x48, .i32⟩
  | 110 => ⟨S48x48x48, .i32⟩
  | 111 => ⟨S48x48x48, .i32⟩
  | 112 => ⟨S_, .i32⟩
  | 113 => ⟨S48x48x48, .i32⟩
  | 114 => ⟨S48x48x48, .i32⟩
  | 115 => ⟨S48x48x48, .i32⟩
  | 116 => ⟨S_, .i32⟩
  | 117 => ⟨S48x48x48, .i32⟩
  | 118 => ⟨S48x48x48, .i32⟩
  | 119 => ⟨S_, .i32⟩
  | 120 => ⟨S48x48x48, .i32⟩
  | 121 => ⟨S48x48x48, .i32⟩
  | 122 => ⟨S_, .i32⟩
  | 123 => ⟨S48x48x48, .i32⟩
  | 124 => ⟨S48x48x48, .i32⟩
  | 125 => ⟨S48x48x48, .i32⟩
  | 126 => ⟨S_, .i32⟩
  | 127 => ⟨S48x48x48, .i32⟩
  | _ => ⟨S4x48x48x48, .f32⟩

abbrev hbmTy0_1 (i : Nat) : BufTy := match i % 128 with
  | 0 => ⟨S48x48x48, .i32⟩
  | 1 => ⟨S48x48x48, .i32⟩
  | 2 => ⟨S_, .i32⟩
  | 3 => ⟨S48x48x48, .i32⟩
  | 4 => ⟨S48x48x48, .i32⟩
  | 5 => ⟨S_, .i32⟩
  | 6 => ⟨S48x48x48, .i32⟩
  | 7 => ⟨S48x48x48, .i32⟩
  | 8 => ⟨S_, .i32⟩
  | 9 => ⟨S48x48x48, .i32⟩
  | 10 => ⟨S48x48x48, .i32⟩
  | 11 => ⟨S_, .i32⟩
  | 12 => ⟨S48x48x48, .i32⟩
  | 13 => ⟨S48x48x48, .i32⟩
  | 14 => ⟨S48x48x48, .i32⟩
  | 15 => ⟨S_, .i32⟩
  | 16 => ⟨S48x48x48, .i32⟩
  | 17 => ⟨S48x48x48, .i32⟩
  | 18 => ⟨S48x48x48, .i32⟩
  | 19 => ⟨S_, .i32⟩
  | 20 => ⟨S48x48x48, .i32⟩
  | 21 => ⟨S48x48x48, .i32⟩
  | 22 => ⟨S_, .i32⟩
  | 23 => ⟨S48x48x48, .i32⟩
  | 24 => ⟨S48x48x48, .i32⟩
  | 25 => ⟨S48x48x48, .i32⟩
  | 26 => ⟨S_, .i32⟩
  | 27 => ⟨S48x48x48, .i32⟩
  | 28 => ⟨S48x48x48, .i32⟩
  | 29 => ⟨S48x48x48, .i32⟩
  | 30 => ⟨S_, .i32⟩
  | 31 => ⟨S48x48x48, .i32⟩
  | 32 => ⟨S48x48x48, .i32⟩
  | 33 => ⟨S_, .i32⟩
  | 34 => ⟨S48x48x48, .i32⟩
  | 35 => ⟨S48x48x48, .i32⟩
  | 36 => ⟨S_, .i32⟩
  | 37 => ⟨S48x48x48, .i32⟩
  | 38 => ⟨S48x48x48, .i32⟩
  | 39 => ⟨S48x48x48, .i32⟩
  | 40 => ⟨S_, .i32⟩
  | 41 => ⟨S48x48x48, .i32⟩
  | 42 => ⟨S48x48x48, .i32⟩
  | 43 => ⟨S48x48x48, .i32⟩
  | 44 => ⟨S_, .i32⟩
  | 45 => ⟨S48x48x48, .i32⟩
  | 46 => ⟨S48x48x48, .i32⟩
  | 47 => ⟨S48x48x48, .i32⟩
  | 48 => ⟨S_, .i32⟩
  | 49 => ⟨S48x48x48, .i32⟩
  | 50 => ⟨S48x48x48, .i32⟩
  | 51 => ⟨S48x48x48, .i32⟩
  | 52 => ⟨S_, .i32⟩
  | 53 => ⟨S48x48x48, .i32⟩
  | 54 => ⟨S48x48x48, .i32⟩
  | 55 => ⟨S_, .i32⟩
  | 56 => ⟨S48x48x48, .i32⟩
  | 57 => ⟨S48x48x48, .i32⟩
  | 58 => ⟨S48x48x48, .i32⟩
  | 59 => ⟨S_, .i32⟩
  | 60 => ⟨S48x48x48, .i32⟩
  | 61 => ⟨S48x48x48, .i32⟩
  | 62 => ⟨S48x48x48, .i32⟩
  | 63 => ⟨S_, .i32⟩
  | 64 => ⟨S48x48x48, .i32⟩
  | 65 => ⟨S48x48x48, .i32⟩
  | 66 => ⟨S_, .i32⟩
  | 67 => ⟨S48x48x48, .i32⟩
  | 68 => ⟨S48x48x48, .i32⟩
  | 69 => ⟨S48x48x48, .i32⟩
  | 70 => ⟨S_, .i32⟩
  | 71 => ⟨S48x48x48, .i32⟩
  | 72 => ⟨S48x48x48, .i32⟩
  | 73 => ⟨S48x48x48, .i32⟩
  | 74 => ⟨S_, .i32⟩
  | 75 => ⟨S48x48x48, .i32⟩
  | 76 => ⟨S48x48x48, .i32⟩
  | 77 => ⟨S_, .i32⟩
  | 78 => ⟨S48x48x48, .i32⟩
  | 79 => ⟨S48x48x48, .i32⟩
  | 80 => ⟨S_, .i32⟩
  | 81 => ⟨S48x48x48, .i32⟩
  | 82 => ⟨S48x48x48, .i32⟩
  | 83 => ⟨S48x48x48, .i32⟩
  | 84 => ⟨S_, .i32⟩
  | 85 => ⟨S48x48x48, .i32⟩
  | 86 => ⟨S48x48x48, .i32⟩
  | 87 => ⟨S48x48x48, .i32⟩
  | 88 => ⟨S_, .i32⟩
  | 89 => ⟨S48x48x48, .i32⟩
  | 90 => ⟨S48x48x48, .i32⟩
  | 91 => ⟨S_, .i32⟩
  | 92 => ⟨S48x48x48, .i32⟩
  | 93 => ⟨S48x48x48, .i32⟩
  | 94 => ⟨S_, .i32⟩
  | 95 => ⟨S48x48x48, .i32⟩
  | 96 => ⟨S48x48x48, .i32⟩
  | 97 => ⟨S48x48x48, .i32⟩
  | 98 => ⟨S_, .i32⟩
  | 99 => ⟨S48x48x48, .i32⟩
  | 100 => ⟨S48x48x48, .i32⟩
  | 101 => ⟨S48x48x48, .i32⟩
  | 102 => ⟨S_, .i32⟩
  | 103 => ⟨S48x48x48, .i32⟩
  | 104 => ⟨S48x48x48, .i32⟩
  | 105 => ⟨S_, .i32⟩
  | 106 => ⟨S48x48x48, .i32⟩
  | 107 => ⟨S48x48x48, .i32⟩
  | 108 => ⟨S_, .i32⟩
  | 109 => ⟨S48x48x48, .i32⟩
  | 110 => ⟨S48x48x48, .i32⟩
  | 111 => ⟨S_, .i32⟩
  | 112 => ⟨S48x48x48, .i32⟩
  | 113 => ⟨S48x48x48, .i32⟩
  | 114 => ⟨S48x48x48, .i32⟩
  | 115 => ⟨S_, .i32⟩
  | 116 => ⟨S48x48x48, .i32⟩
  | 117 => ⟨S48x48x48, .i32⟩
  | 118 => ⟨S48x48x48, .i32⟩
  | 119 => ⟨S_, .i32⟩
  | 120 => ⟨S48x48x48, .i32⟩
  | 121 => ⟨S48x48x48, .i32⟩
  | 122 => ⟨S_, .i32⟩
  | 123 => ⟨S48x48x48, .i32⟩
  | 124 => ⟨S48x48x48, .i32⟩
  | 125 => ⟨S48x48x48, .i32⟩
  | 126 => ⟨S_, .i32⟩
  | 127 => ⟨S48x48x48, .i32⟩
  | _ => ⟨S4x48x48x48, .f32⟩

abbrev hbmTy0_2 (i : Nat) : BufTy := match i % 128 with
  | 0 => ⟨S48x48x48, .i32⟩
  | 1 => ⟨S48x48x48, .i32⟩
  | 2 => ⟨S_, .i32⟩
  | 3 => ⟨S48x48x48, .i32⟩
  | 4 => ⟨S48x48x48, .i32⟩
  | 5 => ⟨S48x48x48, .i32⟩
  | 6 => ⟨S_, .i32⟩
  | 7 => ⟨S48x48x48, .i32⟩
  | 8 => ⟨S48x48x48, .i32⟩
  | 9 => ⟨S48x48x48, .i32⟩
  | 10 => ⟨S_, .i32⟩
  | 11 => ⟨S48x48x48, .i32⟩
  | 12 => ⟨S48x48x48, .i32⟩
  | 13 => ⟨S_, .i32⟩
  | 14 => ⟨S48x48x48, .i32⟩
  | 15 => ⟨S48x48x48, .i32⟩
  | 16 => ⟨S_, .i32⟩
  | 17 => ⟨S48x48x48, .i32⟩
  | 18 => ⟨S48x48x48, .i32⟩
  | 19 => ⟨S48x48x48, .i32⟩
  | 20 => ⟨S_, .i32⟩
  | 21 => ⟨S48x48x48, .i32⟩
  | 22 => ⟨S48x48x48, .i32⟩
  | 23 => ⟨S48x48x48, .i32⟩
  | 24 => ⟨S_, .i32⟩
  | 25 => ⟨S48x48x48, .i32⟩
  | 26 => ⟨S48x48x48, .i32⟩
  | 27 => ⟨S_, .i32⟩
  | 28 => ⟨S48x48x48, .i32⟩
  | 29 => ⟨S48x48x48, .i32⟩
  | 30 => ⟨S48x48x48, .i32⟩
  | 31 => ⟨S_, .i32⟩
  | 32 => ⟨S48x48x48, .i32⟩
  | 33 => ⟨S48x48x48, .i32⟩
  | 34 => ⟨S48x48x48, .i32⟩
  | 35 => ⟨S_, .i32⟩
  | 36 => ⟨S48x48x48, .i32⟩
  | 37 => ⟨S48x48x48, .i32⟩
  | 38 => ⟨S_, .i32⟩
  | 39 => ⟨S48x48x48, .i32⟩
  | 40 => ⟨S48x48x48, .i32⟩
  | 41 => ⟨S48x48x48, .i32⟩
  | 42 => ⟨S_, .i32⟩
  | 43 => ⟨S48x48x48, .i32⟩
  | 44 => ⟨S48x48x48, .i32⟩
  | 45 => ⟨S48x48x48, .i32⟩
  | 46 => ⟨S_, .i32⟩
  | 47 => ⟨S48x48x48, .i32⟩
  | 48 => ⟨S48x48x48, .i32⟩
  | 49 => ⟨S_, .i32⟩
  | 50 => ⟨S48x48x48, .i32⟩
  | 51 => ⟨S48x48x48, .i32⟩
  | 52 => ⟨S_, .i32⟩
  | 53 => ⟨S48x48x48, .i32⟩
  | 54 => ⟨S48x48x48, .i32⟩
  | 55 => ⟨S48x48x48, .i32⟩
  | 56 => ⟨S_, .i32⟩
  | 57 => ⟨S48x48x48, .i32⟩
  | 58 => ⟨S48x48x48, .i32⟩
  | 59 => ⟨S48x48x48, .i32⟩
  | 60 => ⟨S_, .i32⟩
  | 61 => ⟨S48x48x48, .i32⟩
  | 62 => ⟨S48x48x48, .i32⟩
  | 63 => ⟨S_, .i32⟩
  | 64 => ⟨S48x48x48, .i32⟩
  | 65 => ⟨S48x48x48, .i32⟩
  | 66 => ⟨S_, .i32⟩
  | 67 => ⟨S48x48x48, .i32⟩
  | 68 => ⟨S48x48x48, .i32⟩
  | 69 => ⟨S48x48x48, .i32⟩
  | 70 => ⟨S_, .i32⟩
  | 71 => ⟨S48x48x48, .i32⟩
  | 72 => ⟨S48x48x48, .i32⟩
  | 73 => ⟨S48x48x48, .i32⟩
  | 74 => ⟨S_, .i32⟩
  | 75 => ⟨S48x48x48, .i32⟩
  | 76 => ⟨S48x48x48, .i32⟩
  | 77 => ⟨S_, .i32⟩
  | 78 => ⟨S48x48x48, .i32⟩
  | 79 => ⟨S48x48x48, .i32⟩
  | 80 => ⟨S_, .i32⟩
  | 81 => ⟨S48x48x48, .i32⟩
  | 82 => ⟨S48x48x48, .i32⟩
  | 83 => ⟨S_, .i32⟩
  | 84 => ⟨S48x48x48, .i32⟩
  | 85 => ⟨S48x48x48, .i32⟩
  | 86 => ⟨S48x48x48, .i32⟩
  | 87 => ⟨S_, .i32⟩
  | 88 => ⟨S48x48x48, .i32⟩
  | 89 => ⟨S48x48x48, .i32⟩
  | 90 => ⟨S48x48x48, .i32⟩
  | 91 => ⟨S48x48x48x1, .i32⟩
  | 92 => ⟨S48x48x48x1, .i32⟩
  | 93 => ⟨S48x48x48x1, .i32⟩
  | 94 => ⟨S48x48x48x3, .i32⟩
  | 95 => ⟨S48x48x48x1, .i32⟩
  | 96 => ⟨S48x48x48x1, .i32⟩
  | 97 => ⟨S48x48x48x1, .i32⟩
  | 98 => ⟨S48x48x48x3, .i32⟩
  | 99 => ⟨S48x48x48x1x3, .i32⟩
  | 100 => ⟨S48x48x48x1x3, .i32⟩
  | 101 => ⟨S48x48x48x2x3, .i32⟩
  | 102 => ⟨S48x48x48x1, .i32⟩
  | 103 => ⟨S48x48x48x1, .i32⟩
  | 104 => ⟨S48x48x48x1, .i32⟩
  | 105 => ⟨S48x48x48x3, .i32⟩
  | 106 => ⟨S48x48x48x1, .i32⟩
  | 107 => ⟨S48x48x48x1, .i32⟩
  | 108 => ⟨S48x48x48x1, .i32⟩
  | 109 => ⟨S48x48x48x3, .i32⟩
  | 110 => ⟨S48x48x48x1x3, .i32⟩
  | 111 => ⟨S48x48x48x1x3, .i32⟩
  | 112 => ⟨S48x48x48x2x3, .i32⟩
  | 113 => ⟨S48x48x48x1, .i32⟩
  | 114 => ⟨S48x48x48x1, .i32⟩
  | 115 => ⟨S48x48x48x1, .i32⟩
  | 116 => ⟨S48x48x48x3, .i32⟩
  | 117 => ⟨S48x48x48x1, .i32⟩
  | 118 => ⟨S48x48x48x1, .i32⟩
  | 119 => ⟨S48x48x48x1, .i32⟩
  | 120 => ⟨S48x48x48x3, .i32⟩
  | 121 => ⟨S48x48x48x1x3, .i32⟩
  | 122 => ⟨S48x48x48x1x3, .i32⟩
  | 123 => ⟨S48x48x48x2x3, .i32⟩
  | 124 => ⟨S48x48x48x1, .i32⟩
  | 125 => ⟨S48x48x48x1, .i32⟩
  | 126 => ⟨S48x48x48x1, .i32⟩
  | 127 => ⟨S48x48x48x3, .i32⟩
  | _ => ⟨S4x48x48x48, .f32⟩

abbrev hbmTy0_3 (i : Nat) : BufTy := match i % 128 with
  | 0 => ⟨S48x48x48x1, .i32⟩
  | 1 => ⟨S48x48x48x1, .i32⟩
  | 2 => ⟨S48x48x48x1, .i32⟩
  | 3 => ⟨S48x48x48x3, .i32⟩
  | 4 => ⟨S48x48x48x1x3, .i32⟩
  | 5 => ⟨S48x48x48x1x3, .i32⟩
  | 6 => ⟨S48x48x48x2x3, .i32⟩
  | 7 => ⟨S48x48x48x1, .i32⟩
  | 8 => ⟨S48x48x48x1, .i32⟩
  | 9 => ⟨S48x48x48x1, .i32⟩
  | 10 => ⟨S48x48x48x3, .i32⟩
  | 11 => ⟨S48x48x48x1, .i32⟩
  | 12 => ⟨S48x48x48x1, .i32⟩
  | 13 => ⟨S48x48x48x1, .i32⟩
  | 14 => ⟨S48x48x48x3, .i32⟩
  | 15 => ⟨S48x48x48x1x3, .i32⟩
  | 16 => ⟨S48x48x48x1x3, .i32⟩
  | 17 => ⟨S48x48x48x2x3, .i32⟩
  | 18 => ⟨S48x48x48x1, .i32⟩
  | 19 => ⟨S48x48x48x1, .i32⟩
  | 20 => ⟨S48x48x48x1, .i32⟩
  | 21 => ⟨S48x48x48x3, .i32⟩
  | 22 => ⟨S48x48x48x1, .i32⟩
  | 23 => ⟨S48x48x48x1, .i32⟩
  | 24 => ⟨S48x48x48x1, .i32⟩
  | 25 => ⟨S48x48x48x3, .i32⟩
  | 26 => ⟨S48x48x48x1x3, .i32⟩
  | 27 => ⟨S48x48x48x1x3, .i32⟩
  | 28 => ⟨S48x48x48x2x3, .i32⟩
  | 29 => ⟨S1x48x48x48x2x3, .i32⟩
  | 30 => ⟨S1x48x48x48x2x3, .i32⟩
  | 31 => ⟨S1x48x48x48x2x3, .i32⟩
  | 32 => ⟨S1x48x48x48x2x3, .i32⟩
  | 33 => ⟨S1x48x48x48x2x3, .i32⟩
  | 34 => ⟨S1x48x48x48x2x3, .i32⟩
  | 35 => ⟨S6x48x48x48x2x3, .i32⟩
  | 36 => ⟨S1327104x3, .i32⟩
  | 37 => ⟨S4x6x48x48x48x1, .i1⟩
  | 38 => ⟨S4x6x48x48x48x1x2, .i1⟩
  | 39 => ⟨S4x6x48x48x48x2, .i1⟩
  | 40 => ⟨S4x1327104, .i1⟩
  | 41 => ⟨S4x1327104x1, .i1⟩
  | 42 => ⟨S1x1327104x3, .i32⟩
  | 43 => ⟨S_, .i32⟩
  | 44 => ⟨S_, .i32⟩
  | 45 => ⟨S4x1327104x3, .i1⟩
  | 46 => ⟨S4x1327104x3, .i32⟩
  | 47 => ⟨S4x1327104x3, .i32⟩
  | 48 => ⟨S4x1327104x3, .i32⟩
  | 49 => ⟨S49, .i32⟩
  | 50 => ⟨S49, .i32⟩
  | 51 => ⟨S49, .i32⟩
  | 52 => ⟨S49x49x49, .i32⟩
  | 53 => ⟨S49x49x49, .i32⟩
  | 54 => ⟨S49x49x49, .i32⟩
  | 55 => ⟨S49x49x49, .f32⟩
  | 56 => ⟨S_, .f32⟩
  | 57 => ⟨S49x49x49, .f32⟩
  | 58 => ⟨S49x49x49, .f32⟩
  | 59 => ⟨S49x49x49, .f32⟩
  | 60 => ⟨S_, .f32⟩
  | 61 => ⟨S49x49x49, .f32⟩
  | 62 => ⟨S49x49x49, .f32⟩
  | 63 => ⟨S49x49x49, .f32⟩
  | 64 => ⟨S_, .f32⟩
  | 65 => ⟨S49x49x49, .f32⟩
  | 66 => ⟨S49x49x49, .f32⟩
  | 67 => ⟨S49x49x49x1, .f32⟩
  | 68 => ⟨S49x49x49x1, .f32⟩
  | 69 => ⟨S49x49x49x1, .f32⟩
  | 70 => ⟨S49x49x49x3, .f32⟩
  | 71 => ⟨S117649x3, .f32⟩
  | 72 => ⟨S117649x3, .f32⟩
  | 73 => ⟨S1x117649x3, .f32⟩
  | 74 => ⟨S4x117649x3, .f32⟩
  | _ => ⟨S4x48x48x48, .f32⟩

abbrev hbmTy (i : Nat) : BufTy := match i / 128 with
  | 0 => hbmTy0_0 i
  | 1 => hbmTy0_1 i
  | 2 => hbmTy0_2 i
  | 3 => hbmTy0_3 i
  | _ => ⟨S4x48x48x48, .f32⟩

abbrev bufTy : (tb : Table) → Fin (tcTables nBuf tb) → BufTy
  | .hbm, ⟨i, _⟩ => hbmTy i
  | _, _ => ⟨S4x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_v2 : Ref sig .tc := ⟨.hbm, 6, rfl⟩
abbrev main_call1_v0 : Ref sig .tc := ⟨.hbm, 7, rfl⟩
abbrev main_call1_v1 : Ref sig .tc := ⟨.hbm, 8, rfl⟩
abbrev main_v3 : Ref sig .tc := ⟨.hbm, 9, rfl⟩
abbrev main_call2_v0 : Ref sig .tc := ⟨.hbm, 10, rfl⟩
abbrev main_call2_v1 : Ref sig .tc := ⟨.hbm, 11, rfl⟩
abbrev main_v4 : Ref sig .tc := ⟨.hbm, 12, rfl⟩
abbrev main_call3_v0 : Ref sig .tc := ⟨.hbm, 13, rfl⟩
abbrev main_call3_v1 : Ref sig .tc := ⟨.hbm, 14, rfl⟩
abbrev main_v5 : Ref sig .tc := ⟨.hbm, 15, rfl⟩
abbrev main_call4_v0 : Ref sig .tc := ⟨.hbm, 16, rfl⟩
abbrev main_call4_v1 : Ref sig .tc := ⟨.hbm, 17, rfl⟩
abbrev main_v6 : Ref sig .tc := ⟨.hbm, 18, rfl⟩
abbrev main_call5_v0 : Ref sig .tc := ⟨.hbm, 19, rfl⟩
abbrev main_call5_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_1 : Ref sig .tc := ⟨.hbm, 55, rfl⟩
abbrev main_v39 : Ref sig .tc := ⟨.hbm, 56, rfl⟩
abbrev main_v40 : Ref sig .tc := ⟨.hbm, 57, rfl⟩
abbrev main_c_2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_4 : Ref sig .tc := ⟨.hbm, 66, rfl⟩
abbrev main_v47 : Ref sig .tc := ⟨.hbm, 67, rfl⟩
abbrev main_v48 : Ref sig .tc := ⟨.hbm, 68, rfl⟩
abbrev main_c_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_7 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_c_19 : Ref sig .tc := ⟨.hbm, 119, rfl⟩
abbrev main_v85 : Ref sig .tc := ⟨.hbm, 120, rfl⟩
abbrev main_v86 : Ref sig .tc := ⟨.hbm, 121, rfl⟩
abbrev main_c_20 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_21 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_22 : Ref sig .tc := ⟨.hbm, 130, rfl⟩
abbrev main_v93 : Ref sig .tc := ⟨.hbm, 131, rfl⟩
abbrev main_v94 : Ref sig .tc := ⟨.hbm, 132, rfl⟩
abbrev main_c_23 : Ref sig .tc := ⟨.hbm, 133, rfl⟩
abbrev main_v95 : Ref sig .tc := ⟨.hbm, 134, rfl⟩
abbrev main_v96 : Ref sig .tc := ⟨.hbm, 135, rfl⟩
abbrev main_c_24 : Ref sig .tc := ⟨.hbm, 136, rfl⟩
abbrev main_v97 : Ref sig .tc := ⟨.hbm, 137, rfl⟩
abbrev main_v98 : Ref sig .tc := ⟨.hbm, 138, rfl⟩
abbrev main_c_25 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_26 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_27 : Ref sig .tc := ⟨.hbm, 147, rfl⟩
abbrev main_v105 : Ref sig .tc := ⟨.hbm, 148, rfl⟩
abbrev main_v106 : Ref sig .tc := ⟨.hbm, 149, rfl⟩
abbrev main_c_28 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_29 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_30 : Ref sig .tc := ⟨.hbm, 158, rfl⟩
abbrev main_v113 : Ref sig .tc := ⟨.hbm, 159, rfl⟩
abbrev main_v114 : Ref sig .tc := ⟨.hbm, 160, rfl⟩
abbrev main_c_31 : Ref sig .tc := ⟨.hbm, 161, rfl⟩
abbrev main_v115 : Ref sig .tc := ⟨.hbm, 162, rfl⟩
abbrev main_v116 : Ref sig .tc := ⟨.hbm, 163, rfl⟩
abbrev main_c_32 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_33 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_34 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_35 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_36 : Ref sig .tc := ⟨.hbm, 180, rfl⟩
abbrev main_v129 : Ref sig .tc := ⟨.hbm, 181, rfl⟩
abbrev main_v130 : Ref sig .tc := ⟨.hbm, 182, rfl⟩
abbrev main_c_37 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_38 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_c_39 : Ref sig .tc := ⟨.hbm, 191, rfl⟩
abbrev main_v137 : Ref sig .tc := ⟨.hbm, 192, rfl⟩
abbrev main_v138 : Ref sig .tc := ⟨.hbm, 193, rfl⟩
abbrev main_c_40 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_41 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_42 : Ref sig .tc := ⟨.hbm, 202, rfl⟩
abbrev main_v145 : Ref sig .tc := ⟨.hbm, 203, rfl⟩
abbrev main_v146 : Ref sig .tc := ⟨.hbm, 204, rfl⟩
abbrev main_c_43 : Ref sig .tc := ⟨.hbm, 205, rfl⟩
abbrev main_v147 : Ref sig .tc := ⟨.hbm, 206, rfl⟩
abbrev main_v148 : Ref sig .tc := ⟨.hbm, 207, rfl⟩
abbrev main_c_44 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_45 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_c_46 : Ref sig .tc := ⟨.hbm, 216, rfl⟩
abbrev main_v155 : Ref sig .tc := ⟨.hbm, 217, rfl⟩
abbrev main_v156 : Ref sig .tc := ⟨.hbm, 218, rfl⟩
abbrev main_c_47 : Ref sig .tc := ⟨.hbm, 219, rfl⟩
abbrev main_v157 : Ref sig .tc := ⟨.hbm, 220, rfl⟩
abbrev main_v158 : Ref sig .tc := ⟨.hbm, 221, rfl⟩
abbrev main_c_48 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_c_49 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_c_50 : Ref sig .tc := ⟨.hbm, 230, rfl⟩
abbrev main_v165 : Ref sig .tc := ⟨.hbm, 231, rfl⟩
abbrev main_v166 : Ref sig .tc := ⟨.hbm, 232, rfl⟩
abbrev main_c_51 : Ref sig .tc := ⟨.hbm, 233, rfl⟩
abbrev main_v167 : Ref sig .tc := ⟨.hbm, 234, rfl⟩
abbrev main_v168 : Ref sig .tc := ⟨.hbm, 235, rfl⟩
abbrev main_c_52 : Ref sig .tc := ⟨.hbm, 236, rfl⟩
abbrev main_v169 : Ref sig .tc := ⟨.hbm, 237, rfl⟩
abbrev main_v170 : Ref sig .tc := ⟨.hbm, 238, rfl⟩
abbrev main_c_53 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_c_54 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_c_55 : Ref sig .tc := ⟨.hbm, 247, rfl⟩
abbrev main_v177 : Ref sig .tc := ⟨.hbm, 248, rfl⟩
abbrev main_v178 : Ref sig .tc := ⟨.hbm, 249, rfl⟩
abbrev main_c_56 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_c_57 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_c_58 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_c_59 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_c_60 : Ref sig .tc := ⟨.hbm, 266, rfl⟩
abbrev main_v191 : Ref sig .tc := ⟨.hbm, 267, rfl⟩
abbrev main_v192 : Ref sig .tc := ⟨.hbm, 268, rfl⟩
abbrev main_c_61 : Ref sig .tc := ⟨.hbm, 269, rfl⟩
abbrev main_v193 : Ref sig .tc := ⟨.hbm, 270, rfl⟩
abbrev main_v194 : Ref sig .tc := ⟨.hbm, 271, rfl⟩
abbrev main_c_62 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_c_63 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_c_64 : Ref sig .tc := ⟨.hbm, 280, rfl⟩
abbrev main_v201 : Ref sig .tc := ⟨.hbm, 281, rfl⟩
abbrev main_v202 : Ref sig .tc := ⟨.hbm, 282, rfl⟩
abbrev main_c_65 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_c_66 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_c_67 : Ref sig .tc := ⟨.hbm, 291, rfl⟩
abbrev main_v209 : Ref sig .tc := ⟨.hbm, 292, rfl⟩
abbrev main_v210 : Ref sig .tc := ⟨.hbm, 293, rfl⟩
abbrev main_c_68 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_c_69 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_c_70 : Ref sig .tc := ⟨.hbm, 302, rfl⟩
abbrev main_v217 : Ref sig .tc := ⟨.hbm, 303, rfl⟩
abbrev main_v218 : Ref sig .tc := ⟨.hbm, 304, rfl⟩
abbrev main_c_71 : Ref sig .tc := ⟨.hbm, 305, rfl⟩
abbrev main_v219 : Ref sig .tc := ⟨.hbm, 306, rfl⟩
abbrev main_v220 : Ref sig .tc := ⟨.hbm, 307, rfl⟩
abbrev main_c_72 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_c_73 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_c_74 : Ref sig .tc := ⟨.hbm, 316, rfl⟩
abbrev main_v227 : Ref sig .tc := ⟨.hbm, 317, rfl⟩
abbrev main_v228 : Ref sig .tc := ⟨.hbm, 318, rfl⟩
abbrev main_c_75 : Ref sig .tc := ⟨.hbm, 319, rfl⟩
abbrev main_v229 : Ref sig .tc := ⟨.hbm, 320, rfl⟩
abbrev main_v230 : Ref sig .tc := ⟨.hbm, 321, rfl⟩
abbrev main_c_76 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_c_77 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_c_78 : Ref sig .tc := ⟨.hbm, 330, rfl⟩
abbrev main_v237 : Ref sig .tc := ⟨.hbm, 331, rfl⟩
abbrev main_v238 : Ref sig .tc := ⟨.hbm, 332, rfl⟩
abbrev main_c_79 : Ref sig .tc := ⟨.hbm, 333, rfl⟩
abbrev main_v239 : Ref sig .tc := ⟨.hbm, 334, rfl⟩
abbrev main_v240 : Ref sig .tc := ⟨.hbm, 335, rfl⟩
abbrev main_c_80 : Ref sig .tc := ⟨.hbm, 336, rfl⟩
abbrev main_v241 : Ref sig .tc := ⟨.hbm, 337, rfl⟩
abbrev main_v242 : Ref sig .tc := ⟨.hbm, 338, rfl⟩
abbrev main_c_81 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_c_82 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_v280 : Ref sig .tc := ⟨.hbm, 378, rfl⟩
abbrev main_v281 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_v290 : Ref sig .tc := ⟨.hbm, 388, rfl⟩
abbrev main_v291 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_v297 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩
abbrev main_v317 : Ref sig .tc := ⟨.hbm, 415, rfl⟩
abbrev main_v318 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_c_83 : Ref sig .tc := ⟨.hbm, 427, rfl⟩
abbrev main_call6_v0 : Ref sig .tc := ⟨.hbm, 428, rfl⟩
abbrev main_call6_v1 : Ref sig .tc := ⟨.hbm, 429, rfl⟩
abbrev main_call6_v2 : Ref sig .tc := ⟨.hbm, 430, rfl⟩
abbrev main_call6_v3 : Ref sig .tc := ⟨.hbm, 431, rfl⟩
abbrev main_v329 : Ref sig .tc := ⟨.hbm, 432, rfl⟩
abbrev main_v330 : Ref sig .tc := ⟨.hbm, 433, rfl⟩
abbrev main_v331 : Ref sig .tc := ⟨.hbm, 434, rfl⟩
abbrev main_v332 : Ref sig .tc := ⟨.hbm, 435, rfl⟩
abbrev main_v333 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_cst_84 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_cst_85 : Ref sig .tc := ⟨.hbm, 444, rfl⟩
abbrev main_v340 : Ref sig .tc := ⟨.hbm, 445, rfl⟩
abbrev main_v341 : Ref sig .tc := ⟨.hbm, 446, rfl⟩
abbrev main_v342 : Ref sig .tc := ⟨.hbm, 447, rfl⟩
abbrev main_cst_86 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_v352 : Ref sig .tc := ⟨.hbm, 458, rfl⟩

abbrev nD : Nat := 1
abbrev τ : Topo := Topo.v7x

variable {F : FTy → Type} [FloatOps F]
-- ==== Proof.Mask.lean ====
/-
  The first `pallas_call`, `_mask_kernel`: what its body leaves at a grid point `(d, n)`, and its body obligation.

  The grid is (6 directions, 4 batches). The whole voxel array is staged once; at a point the one branch of the
  point's direction runs, which reads batch `n` and stores the mask of direction `d` whole into the result's block.
-/
module

public import proofs.«01_k».proof.Proof.Gen.KernelIdeal.Skeleton
public import proofs.«01_k».proof.Proof.Gen.KernelIdeal.Regions
public import proofs.«01_k».proof.Proof.Gen.KernelIdeal.Points
public import Idealize.ShloMosaic.Lib.Tactic
public import Idealize.ShloMosaic.Lib.Pipeline.Kit
public import Idealize.ShloMosaic.Lib.Pipeline.FrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch runs -/

/-- Branch `j` runs exactly at the points of direction `j - 1`. -/
theorem cond_iff : ∀ i : grid0.Coords,
    (k0_cond1 i = 1#1 ↔ (i 0).val = 0) ∧ (k0_cond2 i = 1#1 ↔ (i 0).val = 1) ∧ (k0_cond3 i = 1#1 ↔ (i 0).val = 2)
      ∧ (k0_cond4 i = 1#1 ↔ (i 0).val = 3) ∧ (k0_cond5 i = 1#1 ↔ (i 0).val = 4) ∧ (k0_cond6 i = 1#1 ↔ (i 0).val = 5) := by
  decide +kernel

/-- The body stores into the result's block at every point. -/
theorem live0 : ∀ w : Fin 2, ∀ t : Fin cfg0.N, cfg0.idle w (cfg0.grid.coords t) = false :=
  (by decide +kernel : ∀ w : Fin 2, ∀ t : Fin grid0.N, idle0 w (grid0.coords t) = false)

/-! ## What the body leaves -/

/-- The mask of direction `d` of one batch's voxels, as the body stores it. -/
def maskOf (d : ℕ) (v : Vec F S1x48x48x48 .f32) : Vec F S1x1x48x4608 .bf16 :=
  match d with
  | 0 => k0_pay1 v
  | 1 => k0_pay2 v
  | 2 => k0_pay3 v
  | 3 => k0_pay4 v
  | 4 => k0_pay5 v
  | _ => k0_pay6 v

theorem batch_inb (n : ℕ) (h : n < 4) : ∀ a, (![n, 0, 0, 0] : Fin 4 → ℕ) a + S1x48x48x48.size a ≤ S4x48x48x48.size a := by
  intro a
  fin_cases a
  · show n + 1 ≤ 4; omega
  · show 0 + 48 ≤ 48; omega
  · show 0 + 48 ≤ 48; omega
  · show 0 + 48 ≤ 48; omega

/-- Batch `n` of the voxels, as the rectangle the body loads. -/
abbrev batch (n : ℕ) (h : n < 4) : Rect S4x48x48x48 := Rect.unit (s := S4x48x48x48) ![n, 0, 0, 0] S1x48x48x48.size (batch_inb n h)

/-- The rectangle of the whole result block. -/
abbrev rOut0 : Rect S1x1x48x4608 := Rect.unit (s := S1x1x48x4608) ![0, 0, 0, 0] S1x1x48x4608.size inb_S1x1x48x4608_S1x1x48x4608_0_0_0_0

/-- The result's block after the body at a point, from the staged voxels: its one store. -/
def out0 (i : grid0.Coords) (x : Vec F S4x48x48x48 .f32) : Vec F S1x1x48x4608 .bf16 :=
  View.canon [⟨rOut0, maskOf (i 0).val (View.ld x (batch (i 1).val (i 1).isLt))⟩]

/-- The store covers the block. -/
theorem cover0 (p : Vec F S1x1x48x4608 .bf16) (y : S1x1x48x4608.Idx) :
    ∃ pc ∈ ([⟨rOut0, p⟩] : List (View.Piece (Elt F) S1x1x48x4608 .bf16)), y ∈ pc.1.set :=
  View.cover_of_tiled [⟨rOut0, p⟩] S1x1x48x4608.size (by rfl) y

/-- A load of a whole memref at an offset spelt otherwise is the load of the batch. -/
theorem readAt_batch (M : Memref sig .tc .vmem S4x48x48x48 .f32) (f : BufTy.Contents (Elt F) M.view.ty) (off : Fin 4 → ℕ) (n : ℕ) (hn : n < 4)
    (e : off = ![n, 0, 0, 0]) (h : ∀ a, off a + S1x48x48x48.size a ≤ S4x48x48x48.size a) :
    View.readAt (Elt F) M.view (Rect.unit (s := S4x48x48x48) off S1x48x48x48.size h).toLoadRect f
      = View.ld (View.read (Elt F) M.view f) (batch n hn) := by
  subst e; rfl

theorem maskOf_0 (v : Vec F S1x48x48x48 .f32) : maskOf 0 v = k0_pay1 v := by unfold maskOf; rfl
theorem maskOf_1 (v : Vec F S1x48x48x48 .f32) : maskOf 1 v = k0_pay2 v := by unfold maskOf; rfl
theorem maskOf_2 (v : Vec F S1x48x48x48 .f32) : maskOf 2 v = k0_pay3 v := by unfold maskOf; rfl
theorem maskOf_3 (v : Vec F S1x48x48x48 .f32) : maskOf 3 v = k0_pay4 v := by unfold maskOf; rfl
theorem maskOf_4 (v : Vec F S1x48x48x48 .f32) : maskOf 4 v = k0_pay5 v := by unfold maskOf; rfl
theorem maskOf_5 (v : Vec F S1x48x48x48 .f32) : maskOf 5 v = k0_pay6 v := by unfold maskOf; rfl

set_option maxHeartbeats 1000000 in
/-- The body on whole staging memrefs, the voxels' at read contents and the result's at anything, runs to the
    continuation holding the voxels as they were and the result's block at the point's mask. -/
theorem sound_mask (c : Dev nD) (E : Set ℕ) (i : grid0.Coords) (arg2 : Memref sig .tc .vmem S4x48x48x48 .f32) (harg2 : arg2.IsWhole)
    (arg3 : Memref sig .tc .vmem S1x1x48x4608 .bf16) (harg3 : arg3.IsWhole) (x0 : Vec F S4x48x48x48 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0 i x0)) -∗ K ⟨⟩))
      ⊢ wp frame (wpE (defs₀ (F := F)) Variants.none c none) E (cc0__mask_kernel i arg2 harg2 arg3 harg3) K := by
  simp only [cc0__mask_kernel_eq_skeleton]; unfold cc0__mask_kernel_skel
  obtain ⟨e1, e2, e3, e4, e5, e6⟩ := cond_iff i
  have hd : (i 0).val = 0 ∨ (i 0).val = 1 ∨ (i 0).val = 2 ∨ (i 0).val = 3 ∨ (i 0).val = 4 ∨ (i 0).val = 5 := by
    have : (i 0).val < 6 := (i 0).isLt
    omega
  unfold owns
  iintro ⟨⟨%f0, %hf0, H0⟩, ⟨%d1, %f1, -, H1⟩, Hk⟩
  subst hf0
  rcases hd with hd | hd | hd | hd | hd | hd <;> rw [hd] at e1 e2 e3 e4 e5 e6 <;>
    simp only [reduceCtorEq, iff_true, iff_false, OfNat.ofNat_ne_zero, OfNat.ofNat_ne_one, OfNat.zero_ne_ofNat, OfNat.one_ne_ofNat, zero_ne_one, one_ne_zero, Nat.reduceEqDiff] at e1 e2 e3 e4 e5 e6
  all_goals
    sl_exec (disch := first | sl_exact e1 | sl_exact e2 | sl_exact e3 | sl_exact e4 | sl_exact e5 | sl_exact e6)
    sl_step
    iapply Hk
    isplitl [H0]
    · iexists f0; isplitr; · ipureintro; rfl
      iexact H0
    iexists _; isplitr
    swap; · iexact H1
    ipureintro
    refine (View.read_writes_eq_canon _ _ _ (cover0 _)).trans ?_
    unfold out0
    rw [hd]
  · rw [maskOf_0, readAt_batch arg2 f0 (k0_off1 i) (i 1).val (i 1).isLt (k0_off1_eq i)]
  · rw [maskOf_1, readAt_batch arg2 f0 (k0_off2 i) (i 1).val (i 1).isLt (k0_off2_eq i)]
  · rw [maskOf_2, readAt_batch arg2 f0 (k0_off3 i) (i 1).val (i 1).isLt (k0_off3_eq i)]
  · rw [maskOf_3, readAt_batch arg2 f0 (k0_off4 i) (i 1).val (i 1).isLt (k0_off4_eq i)]
  · rw [maskOf_4, readAt_batch arg2 f0 (k0_off5 i) (i 1).val (i 1).isLt (k0_off5_eq i)]
  · rw [maskOf_5, readAt_batch arg2 f0 (k0_off6 i) (i 1).val (i 1).isLt (k0_off6_eq i)]

/-! ## The pipeline's proof data -/

variable (V : Dev nD → Valuation τ sig (Elt F))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The proof data: the arrays as the call finds them, the voxels' buffer kept, the result's at the point's mask;
    the invariant is the scoped rest and the generator register, untouched; nothing owed. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => out0 (grid0.coords t) (iblk0 V c 0 t)
  Φ _ := Pipeline.ΦA (U := UR sig nD τ) spec0 c
  q _ := fullShare
  owed _ := 0

theorem A_eq0 (c : Dev nD) (w : Fin cfg0.W) : (dat0 V c).A w = V c (Proc.devRef .tc (Pipeline.arrRef spec0 w)) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 (grid0.coords t) (iblk0 V c 0 t) := by dsimp only [dat0]

/-- The voxels' staging buffer holds the voxels at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Ho, ⟨%d0, H0⟩, ⟨%d1, H1⟩⟩
  iapply (sound_mask c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body there. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  rw [live0 1 t]
  exact triple_restated (sound_body0 V c t) rfl .rfl fun _ => .rfl

end Cert.KernelIdeal.Own

end
-- ==== Proof.Faces.lean ====
/-
  The second `pallas_call`, `_faces_kernel`: what its body leaves at a grid point `(c, w)`, and its body obligation.

  The grid is (18 = 6 directions x 3 thirds of the first axis, 3 vertices of a triangle). At the first point the body
  fills its two scratch buffers: the linear corner numbers (and triangle parities) of a third, and the vertex table. They
  stay as they are, so at every point the faces' block is the same function of the masks' block, and the vertex block is
  the table, stored once for each of its four visits.
-/
module

public import proofs.«01_k».proof.Proof.Mask
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scalars the body computes from the grid point -/

/-- Whether the point is the first: both coordinates zero. -/
def firstOf (i : grid1.Coords) : BitVec 1 :=
  let v3 : BitVec 32 := Scalar.extui (Scalar.andi (Scalar.cmpi .eq (BitVec.ofNat 32 (i 0).val) 0#32) (Scalar.cmpi .eq (BitVec.ofNat 32 (i 1).val) 0#32))
  Scalar.cmpi .ne v3 0#32

/-- The first point stores the vertex block. -/
theorem cond7_of_first : ∀ i : grid1.Coords, firstOf i = 1#1 → k1_cond7 i = 1#1 := by decide +kernel

/-- The third of the first axis the point works on (`c` modulo 3), as the body computes it. -/
def thirdOf (i : grid1.Coords) : BitVec 32 :=
  let arg0 : BitVec 32 := BitVec.ofNat 32 (i 0).val
  let v5 : BitVec 1 := Scalar.cmpi .eq 3#32 0#32
  let v6 : BitVec 32 := Scalar.select v5 1#32 3#32
  let v7 : BitVec 32 := Scalar.remsi arg0 v6
  let v8 : BitVec 1 := Scalar.cmpi .ne v7 0#32
  let v9 : BitVec 1 := Scalar.cmpi .slt v7 0#32
  let v10 : BitVec 1 := Scalar.cmpi .slt v6 0#32
  let v11 : BitVec 1 := Scalar.xori v9 v10
  let v12 : BitVec 1 := Scalar.andi v11 v8
  let v13 : BitVec 32 := Scalar.addi v7 v6
  let v14 : BitVec 32 := Scalar.select v12 v13 v7
  v14

/-- The direction the point works on (`c` divided by 3), as the body computes it. -/
def dirOf (i : grid1.Coords) : BitVec 32 :=
  let arg0 : BitVec 32 := BitVec.ofNat 32 (i 0).val
  let v15 : BitVec 32 := Scalar.divsi arg0 3#32
  let v16 : BitVec 1 := Scalar.cmpi .sgt arg0 0#32
  let v17 : BitVec 32 := Scalar.extui v16
  let v18 : BitVec 1 := Scalar.cmpi .slt arg0 0#32
  let v19 : BitVec 32 := Scalar.extui v18
  let v20 : BitVec 32 := Scalar.subi v17 v19
  let v21 : BitVec 1 := Scalar.cmpi .sgt 3#32 0#32
  let v22 : BitVec 32 := Scalar.extui v21
  let v23 : BitVec 1 := Scalar.cmpi .slt 3#32 0#32
  let v24 : BitVec 32 := Scalar.extui v23
  let v25 : BitVec 32 := Scalar.subi v22 v24
  let v26 : BitVec 1 := Scalar.cmpi .ne v20 v25
  let v27 : BitVec 32 := Scalar.remsi arg0 3#32
  let v28 : BitVec 1 := Scalar.cmpi .ne v27 0#32
  let v29 : BitVec 1 := Scalar.andi v26 v28
  let v30 : BitVec 32 := Scalar.subi v15 1#32
  let v31 : BitVec 32 := Scalar.select v29 v30 v15
  v31

/-- The two corner offsets of direction `d`'s triangles at vertex `w`: the body's chain of choices on the direction. -/
def offsets (d w : BitVec 32) : IVec S2 32 :=
  let v63 : BitVec 32 := Scalar.minsi (Scalar.maxsi d 0#32) 5#32
  if Scalar.cmpi .ne v63 0#32 = 1#1 then
    if Scalar.cmpi .ne (Scalar.subi v63 1#32) 0#32 = 1#1 then
      if Scalar.cmpi .ne (Scalar.subi (Scalar.subi v63 1#32) 1#32) 0#32 = 1#1 then
        if Scalar.cmpi .ne (Scalar.subi (Scalar.subi (Scalar.subi v63 1#32) 1#32) 1#32) 0#32 = 1#1 then
          if Scalar.cmpi .ne (Scalar.subi (Scalar.subi (Scalar.subi (Scalar.subi v63 1#32) 1#32) 1#32) 1#32) 0#32 = 1#1 then k1_pay25 w
          else k1_pay26 w
        else k1_pay27 w
      else k1_pay28 w
    else k1_pay29 w
  else k1_pay30 w

/-- The second part of the body with the choice of offsets made a value. -/
def part7 (i : grid1.Coords) (arg2 : Memref sig .tc .vmem S1x192x4608 .bf16) (harg2 : arg2.IsWhole) (arg3 : Memref sig .tc .vmem S1x2304x128 .i32) (harg3 : arg3.IsWhole)
    (arg4 : Memref sig .tc .vmem S1x49x7203 .f32) (harg4 : arg4.IsWhole) (arg5 : Memref sig .tc .vmem S2304x128 .i32) (harg5 : arg5.IsWhole)
    (arg6 : Memref sig .tc .vmem S49x7203 .f32) (harg6 : arg6.IsWhole) (arg1 : BitVec 32) (v14 : BitVec 32) (v31 : BitVec 32) (v36 : FVec F S16x4608 .bf16) :
    Prog (TpuEff nD τ sig (Elt F) Λ₀ .tc) (Σ' (v61 : FVec F S2304x128 .bf16) (v68 : IVec S2304x128 32) (v72 : IVec S2304x128 1) (v74 : BitVec 32), BitVec 32) := do
  let v41 : Vec F S1x16x4608 .bf16 ← Prog.lift (.load arg2 (Rect.unit (s := S1x192x4608) (k1_off1 i 48#32) S1x16x4608.size (k1_off1_inb i 1)).toLoadRect (View.loadsAt_vmem h_S1x16x4608))
  let v47 : Vec F S1x16x4608 .bf16 ← Prog.lift (.load arg2 (Rect.unit (s := S1x192x4608) (k1_off1 i 96#32) S1x16x4608.size (k1_off1_inb i 2)).toLoadRect (View.loadsAt_vmem h_S1x16x4608))
  let v53 : Vec F S1x16x4608 .bf16 ← Prog.lift (.load arg2 (Rect.unit (s := S1x192x4608) (k1_off1 i 144#32) S1x16x4608.size (k1_off1_inb i 3)).toLoadRect (View.loadsAt_vmem h_S1x16x4608))
  let v65 : IVec S2 32 := offsets v31 arg1
  let v66 : Vec F S2304x128 .i32 ← Prog.lift (.load arg5 (Rect.unit (s := S2304x128) ![0, 0] S2304x128.size inb_S2304x128_S2304x128_0_0).toLoadRect (View.loadsAt_vmem h_S2304x128))
  let v74 : BitVec 32 := extractAt ![0] (k1_pay33 v65) inpos_S1_p0
  let v76 : BitVec 32 := extractAt ![0] (k1_pay34 v65) inpos_S1_p0
  pure ⟨k1_pay24 v36 v41 v47 v53, k1_pay31 v66, k1_pay32 v66, v74, v76⟩

/-- The printed part is that one: each choice ends in a value. -/
theorem part7_eq (i : grid1.Coords) (arg2 : Memref sig .tc .vmem S1x192x4608 .bf16) (harg2 : arg2.IsWhole) (arg3 : Memref sig .tc .vmem S1x2304x128 .i32) (harg3 : arg3.IsWhole)
    (arg4 : Memref sig .tc .vmem S1x49x7203 .f32) (harg4 : arg4.IsWhole) (arg5 : Memref sig .tc .vmem S2304x128 .i32) (harg5 : arg5.IsWhole)
    (arg6 : Memref sig .tc .vmem S49x7203 .f32) (harg6 : arg6.IsWhole) (arg1 : BitVec 32) (v14 : BitVec 32) (v31 : BitVec 32) (v36 : FVec F S16x4608 .bf16) :
    k1_part7 i arg2 harg2 arg3 harg3 arg4 harg4 arg5 harg5 arg6 harg6 arg1 v14 v31 v36 = part7 i arg2 harg2 arg3 harg3 arg4 harg4 arg5 harg5 arg6 harg6 arg1 v14 v31 v36 := by
  rw [k1_part7_eq_skeleton]
  unfold k1_part7_skel part7 offsets
  by_cases h2 : Scalar.cmpi .ne (Scalar.minsi (Scalar.maxsi v31 0#32) 5#32) 0#32 = 1#1
  · by_cases h3 : Scalar.cmpi .ne (Scalar.subi (Scalar.minsi (Scalar.maxsi v31 0#32) 5#32) 1#32) 0#32 = 1#1
    · by_cases h4 : Scalar.cmpi .ne (Scalar.subi (Scalar.subi (Scalar.minsi (Scalar.maxsi v31 0#32) 5#32) 1#32) 1#32) 0#32 = 1#1
      · by_cases h5 : Scalar.cmpi .ne (Scalar.subi (Scalar.subi (Scalar.subi (Scalar.minsi (Scalar.maxsi v31 0#32) 5#32) 1#32) 1#32) 1#32) 0#32 = 1#1
        · by_cases h6 : Scalar.cmpi .ne (Scalar.subi (Scalar.subi (Scalar.subi (Scalar.subi (Scalar.minsi (Scalar.maxsi v31 0#32) 5#32) 1#32) 1#32) 1#32) 1#32) 0#32 = 1#1
          · simp only [dif_pos h2, dif_pos h3, dif_pos h4, dif_pos h5, dif_pos h6, if_pos h2, if_pos h3, if_pos h4, if_pos h5, if_pos h6]; rfl
          · simp only [dif_pos h2, dif_pos h3, dif_pos h4, dif_pos h5, dif_neg h6, if_pos h2, if_pos h3, if_pos h4, if_pos h5, if_neg h6]; rfl
        · simp only [dif_pos h2, dif_pos h3, dif_pos h4, dif_neg h5, if_pos h2, if_pos h3, if_pos h4, if_neg h5]; rfl
      · simp only [dif_pos h2, dif_pos h3, dif_neg h4, if_pos h2, if_pos h3, if_neg h4]; rfl
    · simp only [dif_pos h2, dif_neg h3, if_pos h2, if_neg h3]; rfl
  · simp only [dif_neg h2, if_neg h2]; rfl

/-! ## What the body leaves -/

/-- The linear corner number of each face of a third, doubled, plus its triangle's parity: the first scratch. -/
def baseTab : IVec S2304x128 32 :=
  k1_pay12 k1_pay4 (k1_pay5 k1_pay3 2#32) (k1_pay6 k1_pay3 2#32)
    (k1_pay9 (k1_pay5 k1_pay3 2#32) 48#32 (k1_pay7 k1_pay3 2#32) (k1_pay8 k1_pay3 2#32) 0#32) 2304#32
    (k1_pay10 (k1_pay5 k1_pay3 2#32)) (k1_pay11 (k1_pay5 k1_pay3 2#32)) (Scalar.extui (Scalar.cmpi .sgt 2304#32 0#32))

/-- The vertex table: the second scratch. -/
def vertTab : FVec F S49x7203 .f32 :=
  k1_pay22 (iota .tc S49x7203 32 [0] iota_S49x7203_d0_w32)
    (k1_pay15 (iota .tc S49x7203 32 [1] iota_S49x7203_d1_w32) 3#32 k1_pay14) (k1_pay16 k1_pay13) (k1_pay17 k1_pay13)
    (k1_pay18 (iota .tc S49x7203 32 [1] iota_S49x7203_d1_w32) 3#32 k1_pay14)
    (k1_pay19 (iota .tc S49x7203 32 [1] iota_S49x7203_d1_w32) 3#32 k1_pay14)
    (k1_pay20 (iota .tc S49x7203 32 [1] iota_S49x7203_d1_w32) 3#32 k1_pay14) k1_pay21

/-- The rectangles of the masks' block that the body loads: one third of each batch. -/
abbrev third0 (i : grid1.Coords) : Rect S1x192x4608 := Rect.unit (s := S1x192x4608) (k1_off1 i 0#32) S1x16x4608.size (k1_off1_inb i 0)
abbrev third1 (i : grid1.Coords) : Rect S1x192x4608 := Rect.unit (s := S1x192x4608) (k1_off1 i 48#32) S1x16x4608.size (k1_off1_inb i 1)
abbrev third2 (i : grid1.Coords) : Rect S1x192x4608 := Rect.unit (s := S1x192x4608) (k1_off1 i 96#32) S1x16x4608.size (k1_off1_inb i 2)
abbrev third3 (i : grid1.Coords) : Rect S1x192x4608 := Rect.unit (s := S1x192x4608) (k1_off1 i 144#32) S1x16x4608.size (k1_off1_inb i 3)

/-- The faces' block after the body at a point, from the staged masks. -/
def outF (i : grid1.Coords) (x : Vec F S1x192x4608 .bf16) : Vec F S1x2304x128 .i32 :=
  k1_pay1 (F := F) (thirdOf i) (k1_pay24 (k1_pay23 (View.ld x (third0 i))) (View.ld x (third1 i)) (View.ld x (third2 i)) (View.ld x (third3 i)))
    (k1_pay31 (F := F) baseTab) (k1_pay32 (F := F) baseTab)
    (extractAt ![0] (k1_pay33 (offsets (dirOf i) (BitVec.ofNat 32 (i 1).val))) inpos_S1_p0)
    (extractAt ![0] (k1_pay34 (offsets (dirOf i) (BitVec.ofNat 32 (i 1).val))) inpos_S1_p0)

/-- The vertex block wherever the body stores it. -/
def outV : Vec F S1x49x7203 .f32 := k1_pay2 (vertTab (F := F))

set_option maxHeartbeats 1000000 in
/-- The body on whole staging memrefs and the two scratch buffers, filled unless the point is the first: it leaves the
    masks as they were, the faces' block at `outF`, the vertex block stored under its condition, and both scratch
    buffers filled. -/
theorem sound_faces (c : Dev nD) (E : Set ℕ) (i : grid1.Coords) (arg2 : Memref sig .tc .vmem S1x192x4608 .bf16) (harg2 : arg2.IsWhole) (arg3 : Memref sig .tc .vmem S1x2304x128 .i32) (harg3 : arg3.IsWhole)
    (arg4 : Memref sig .tc .vmem S1x49x7203 .f32) (harg4 : arg4.IsWhole) (arg5 : Memref sig .tc .vmem S2304x128 .i32) (harg5 : arg5.IsWhole)
    (arg6 : Memref sig .tc .vmem S49x7203 .f32) (harg6 : arg6.IsWhole)
    (x0 : Vec F S1x192x4608 .bf16) (x4 : Vec F S1x49x7203 .f32) (b5 : Vec F S2304x128 .i32) (b6 : Vec F S49x7203 .f32)
    (hs : firstOf i = 1#1 ∨ (b5 = baseTab ∧ b6 = vertTab (F := F))) (K : PUnit → sProp 𝕄) :
    iprop(owns (c : Thread nD τ) arg2 fullShare x0 ∗ (∃ d, owns (c : Thread nD τ) arg3 fullShare d) ∗ owns (c : Thread nD τ) arg4 fullShare x4
        ∗ owns (c : Thread nD τ) arg5 fullShare b5 ∗ owns (c : Thread nD τ) arg6 fullShare b6
        ∗ (iprop(owns (c : Thread nD τ) arg2 fullShare x0 ∗ owns (c : Thread nD τ) arg3 fullShare (outF i x0)
            ∗ owns (c : Thread nD τ) arg4 fullShare (if k1_cond7 i = 1#1 then outV (F := F) else x4)
            ∗ owns (c : Thread nD τ) arg5 fullShare baseTab ∗ owns (c : Thread nD τ) arg6 fullShare (vertTab (F := F))) -∗ K ⟨⟩))
      ⊢ wp frame (wpE (defs₀ (F := F)) Variants.none c none) E (cc1__faces_kernel i arg2 harg2 arg3 harg3 arg4 harg4 arg5 harg5 arg6 harg6) K := by
  simp only [cc1__faces_kernel_eq_skeleton]; unfold cc1__faces_kernel_skel
  simp only [part7_eq, k1_part6_eq_skeleton]
  unfold owns
  by_cases hf : firstOf i = 1#1
  · have h7 := cond7_of_first i hf
    have hf' := hf
    unfold firstOf at hf'
    rw [if_pos h7]
    iintro ⟨⟨%f2, %hf2, H2⟩, ⟨%d3, %f3, -, H3⟩, ⟨%f4, %hf4, H4⟩, ⟨%f5, %hf5, H5⟩, ⟨%f6, %hf6, H6⟩, Hk⟩
    subst hf2
    sl_exec (disch := first | sl_exact hf' | sl_exact h7)
    sl_step
    iapply Hk
    isplitl [H2]
    · iexists f2; isplitr; · ipureintro; rfl
      iexact H2
    isplitl [H3]
    · iexists _; isplitr
      swap; · iexact H3
      ipureintro
      refine (View.read_writes_full arg3.view f3 inb_S1x2304x128_S1x2304x128_0_0_0 _ []).trans ?_
      unfold outF
      show k1_pay1 (F := F) (thirdOf i) (k1_pay24 (k1_pay23 (View.ld (View.read (Elt F) arg2.view f2) (third0 i))) (View.ld (View.read (Elt F) arg2.view f2) (third1 i)) (View.ld (View.read (Elt F) arg2.view f2) (third2 i)) (View.ld (View.read (Elt F) arg2.view f2) (third3 i)))
          (k1_pay31 (F := F) (arg5.view.readCov [⟨Rect.unit (s := S2304x128) ![0, 0] S2304x128.size inb_S2304x128_S2304x128_0_0, baseTab⟩] (Rect.unit (s := S2304x128) ![0, 0] S2304x128.size inb_S2304x128_S2304x128_0_0).toLoadRect)) (k1_pay32 (F := F) (arg5.view.readCov [⟨Rect.unit (s := S2304x128) ![0, 0] S2304x128.size inb_S2304x128_S2304x128_0_0, baseTab⟩] (Rect.unit (s := S2304x128) ![0, 0] S2304x128.size inb_S2304x128_S2304x128_0_0).toLoadRect))
          (extractAt ![0] (k1_pay33 (offsets (dirOf i) (BitVec.ofNat 32 (i 1).val))) inpos_S1_p0) (extractAt ![0] (k1_pay34 (offsets (dirOf i) (BitVec.ofNat 32 (i 1).val))) inpos_S1_p0) = _
      rw [View.readCov_full (Val := Elt F) arg5.view inb_S2304x128_S2304x128_0_0 inb_S2304x128_S2304x128_0_0 baseTab []]
    isplitl [H4]
    · iexists _; isplitr
      swap; · iexact H4
      ipureintro
      refine (View.read_writes_full arg4.view f4 inb_S1x49x7203_S1x49x7203_0_0_0 _ []).trans ?_
      show k1_pay2 (F := F) (arg6.view.readCov [⟨Rect.unit (s := S49x7203) ![0, 0] S49x7203.size inb_S49x7203_S49x7203_0_0, vertTab (F := F)⟩] (Rect.unit (s := S49x7203) ![0, 0] S49x7203.size inb_S49x7203_S49x7203_0_0).toLoadRect) = _
      rw [View.readCov_full (Val := Elt F) arg6.view inb_S49x7203_S49x7203_0_0 inb_S49x7203_S49x7203_0_0 (vertTab (F := F)) []]; rfl
    isplitl [H5]
    · iexists _; isplitr
      swap; · iexact H5
      ipureintro
      exact View.read_writes_full arg5.view f5 inb_S2304x128_S2304x128_0_0 baseTab []
    iexists _; isplitr
    swap; · iexact H6
    ipureintro
    exact View.read_writes_full arg6.view f6 inb_S49x7203_S49x7203_0_0 (vertTab (F := F)) []
  · replace hs := hs.resolve_left hf
    have hf' := hf
    unfold firstOf at hf'
    by_cases h7 : k1_cond7 i = 1#1
    · rw [if_pos h7]
      iintro ⟨⟨%f2, %hf2, H2⟩, ⟨%d3, %f3, -, H3⟩, ⟨%f4, %hf4, H4⟩, ⟨%f5, %hf5, H5⟩, ⟨%f6, %hf6, H6⟩, Hk⟩
      subst hf2
      sl_exec (disch := first | sl_exact hf' | sl_exact h7)
      sl_step
      iapply Hk
      isplitl [H2]
      · iexists f2; isplitr; · ipureintro; rfl
        iexact H2
      isplitl [H3]
      · iexists _; isplitr
        swap; · iexact H3
        ipureintro
        refine (View.read_writes_full arg3.view f3 inb_S1x2304x128_S1x2304x128_0_0_0 _ []).trans ?_
        unfold outF
        show k1_pay1 (F := F) (thirdOf i) (k1_pay24 (k1_pay23 (View.ld (View.read (Elt F) arg2.view f2) (third0 i))) (View.ld (View.read (Elt F) arg2.view f2) (third1 i)) (View.ld (View.read (Elt F) arg2.view f2) (third2 i)) (View.ld (View.read (Elt F) arg2.view f2) (third3 i)))
            (k1_pay31 (F := F) (View.readAt (Elt F) arg5.view (Rect.unit (s := S2304x128) ![0, 0] S2304x128.size inb_S2304x128_S2304x128_0_0).toLoadRect f5)) (k1_pay32 (F := F) (View.readAt (Elt F) arg5.view (Rect.unit (s := S2304x128) ![0, 0] S2304x128.size inb_S2304x128_S2304x128_0_0).toLoadRect f5))
            (extractAt ![0] (k1_pay33 (offsets (dirOf i) (BitVec.ofNat 32 (i 1).val))) inpos_S1_p0) (extractAt ![0] (k1_pay34 (offsets (dirOf i) (BitVec.ofNat 32 (i 1).val))) inpos_S1_p0) = _
        rw [View.readAt_full, hf5, hs.1]
      isplitl [H4]
      · iexists _; isplitr
        swap; · iexact H4
        ipureintro
        refine (View.read_writes_full arg4.view f4 inb_S1x49x7203_S1x49x7203_0_0_0 _ []).trans ?_
        show k1_pay2 (F := F) (View.readAt (Elt F) arg6.view (Rect.unit (s := S49x7203) ![0, 0] S49x7203.size inb_S49x7203_S49x7203_0_0).toLoadRect f6) = _
        rw [View.readAt_full, hf6, hs.2]; rfl
      isplitl [H5]
      · iexists _; isplitr
        swap; · iexact H5
        ipureintro
        exact hf5.trans hs.1
      iexists _; isplitr
      swap; · iexact H6
      ipureintro
      exact hf6.trans hs.2
    · rw [if_neg h7]
      iintro ⟨⟨%f2, %hf2, H2⟩, ⟨%d3, %f3, -, H3⟩, ⟨%f4, %hf4, H4⟩, ⟨%f5, %hf5, H5⟩, ⟨%f6, %hf6, H6⟩, Hk⟩
      subst hf2
      sl_exec (disch := first | sl_exact hf' | sl_exact h7)
      sl_step
      iapply Hk
      isplitl [H2]
      · iexists f2; isplitr; · ipureintro; rfl
        iexact H2
      isplitl [H3]
      · iexists _; isplitr
        swap; · iexact H3
        ipureintro
        refine (View.read_writes_full arg3.view f3 inb_S1x2304x128_S1x2304x128_0_0_0 _ []).trans ?_
        unfold outF
        show k1_pay1 (F := F) (thirdOf i) (k1_pay24 (k1_pay23 (View.ld (View.read (Elt F) arg2.view f2) (third0 i))) (View.ld (View.read (Elt F) arg2.view f2) (third1 i)) (View.ld (View.read (Elt F) arg2.view f2) (third2 i)) (View.ld (View.read (Elt F) arg2.view f2) (third3 i)))
            (k1_pay31 (F := F) (View.readAt (Elt F) arg5.view (Rect.unit (s := S2304x128) ![0, 0] S2304x128.size inb_S2304x128_S2304x128_0_0).toLoadRect f5)) (k1_pay32 (F := F) (View.readAt (Elt F) arg5.view (Rect.unit (s := S2304x128) ![0, 0] S2304x128.size inb_S2304x128_S2304x128_0_0).toLoadRect f5))
            (extractAt ![0] (k1_pay33 (offsets (dirOf i) (BitVec.ofNat 32 (i 1).val))) inpos_S1_p0) (extractAt ![0] (k1_pay34 (offsets (dirOf i) (BitVec.ofNat 32 (i 1).val))) inpos_S1_p0) = _
        rw [View.readAt_full, hf5, hs.1]
      isplitl [H4]
      · iexists _; isplitr
        swap; · iexact H4
        ipureintro
        exact hf4
      isplitl [H5]
      · iexists _; isplitr
        swap; · iexact H5
        ipureintro
        exact hf5.trans hs.1
      iexists _; isplitr
      swap; · iexact H6
      ipureintro
      exact hf6.trans hs.2

end Cert.KernelIdeal.Own

end
-- ==== Proof.Body1.lean ====
/-
  The second `pallas_call`'s proof data and body obligation.

  Between points the two scratch buffers hold anything before the first point and the vertex-index table and the
  vertex table after it; the vertex block's staging buffer is stored at four points and kept at the points between.
-/
module

public import proofs.«01_k».proof.Proof.Faces
public import Idealize.ShloMosaic.Lib.Pipeline.TableIdle

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- The point numbered 0 is the one the body takes for the first. -/
theorem first_of_zero : ∀ t : Fin cfg1.N, t.val = 0 → firstOf (grid1.coords t) = 1#1 :=
  (by decide +kernel : ∀ t : Fin grid1.N, t.val = 0 → firstOf (grid1.coords t) = 1#1)

/-- The masks' window and the faces' are stored or kept at every point alike. -/
theorem live1_0 : ∀ t : Fin cfg1.N, cfg1.idle 0 (cfg1.grid.coords t) = false := fun _ => rfl
theorem live1_1 : ∀ t : Fin cfg1.N, cfg1.idle 1 (cfg1.grid.coords t) = false := fun _ => rfl
theorem idle1_2 (t : Fin cfg1.N) : cfg1.idle 2 (cfg1.grid.coords t) = !(k1_cond7 (grid1.coords t) == 1#1) := rfl

/-- Where the vertex block's buffer holds nothing the body stored: the points a block of it begins at. -/
def freshTab (n : ℕ) : Bool := n % 15 == 0 || n == 54

theorem fresh1_2 (n : ℕ) (h : n ≤ cfg1.N) : cfg1.fresh 2 n = freshTab n :=
  cfg1.fresh_tab 2 freshTab rfl
    (by simp only [Pipeline.Window.flush_eq_flushF]
        exact (by decide +kernel : ∀ t : Fin grid1.N, freshTab (t.val + 1) = (win1_2.flushF t || (idle1 2 (grid1.coords t) && freshTab t.val)))) n h

/-- Where it writes the vertex block back, it has been stored. -/
theorem flush_not_fresh (t : Fin cfg1.N) (h : (cfg1.win 2).flush t = true) : freshTab t.val = false := by
  rw [Pipeline.Window.flush_eq_flushF] at h
  exact (by decide +kernel : ∀ t : Fin grid1.N, win1_2.flushF t = true → freshTab t.val = false) t h

/-! ## The proof data -/

variable (V : Dev nD → Valuation τ sig (Elt F))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The two scratch buffers before the point numbered `n`: anything before the first, the two tables after it. -/
def scratchAt (c : Dev nD) (n : ℕ) : sProp 𝕄 :=
  iprop(∃ b5 : Vec F S2304x128 .i32, ∃ b6 : Vec F S49x7203 .f32, ⌜n = 0 ∨ (b5 = baseTab ∧ b6 = vertTab (F := F))⌝
    ∗ owns (c : Thread nD τ) (Memref.whole cc1_scratch0) fullShare b5 ∗ owns (c : Thread nD τ) (Memref.whole cc1_scratch1) fullShare b6)

/-- The first call's staging buffers, which this call leaves alone, and the generator register. -/
def aside (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ r, prngReg c r))

/-- The proof data: the arrays as the call finds them; after the body the masks kept, the faces' block and the vertex
    block; the scratch buffers and what lies aside carried along; nothing owed. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => outF (grid1.coords t) (iblk1 V c 0 t)
    | ⟨2, _⟩ => outV (F := F)
  Φ t := iprop(scratchAt c t.val ∗ aside c)
  q _ := fullShare
  owed _ := 0

theorem A_eq1 (c : Dev nD) (w : Fin cfg1.W) : (dat1 V c).A w = V c (Proc.devRef .tc (Pipeline.arrRef spec1 w)) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = outF (grid1.coords t) (iblk1 V c 0 t) := by dsimp only [dat1]
theorem after1_2 (c : Dev nD) (t : Fin cfg1.N) : (dat1 V c).after 2 t = outV (F := F) := by dsimp only [dat1]

/-- The masks' staging buffer holds the point's block, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The vertex block's staging buffer where it is written back holds the vertex block. -/
theorem before1_2 (c : Dev nD) (t : Fin cfg1.N) (h : (cfg1.win 2).flush t = true) (d) : (dat1 V c).before 2 t d = outV (F := F) := by
  rw [(dat1 V c).before_out_traj 2 rfl (fun _ _ => rfl) (fun t _ _ _ => by rw [after1_2, after1_2]) t.val t rfl d,
    fresh1_2 t.val (le_of_lt t.isLt), flush_not_fresh t h, if_neg Bool.false_ne_true, after1_2]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the vertex block where it stores it, else what it found. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ d, owns (c : Thread nD τ) (st1_2 t) fullShare (if k1_cond7 (grid1.coords t) = 1#1 then outV (F := F) else (dat1 V c).before 2 t d)))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.castSucc = iprop(scratchAt c t.val ∗ aside c) from rfl,
    show (dat1 V c).Φ t.succ = iprop(scratchAt c (t.val + 1) ∗ aside c) from rfl,
    show (dat1 V c).owesAt () t.succ = (dat1 V c).owesAt () t.castSucc from rfl, after1_0, after1_1]
  unfold scratchAt
  iintro ⟨⟨⟨%b5, %b6, %hs, H5, H6⟩, Ha⟩, Ho, ⟨%d0, H0⟩, ⟨%d1, H1⟩, ⟨%d2, H2⟩⟩
  iapply (sound_faces c Set.univ (grid1.coords t) _ _ _ _ _ _ _ _ _ _ (iblk1 V c 0 t) ((dat1 V c).before 2 t d2) b5 b6
    (hs.imp_left (first_of_zero t)) _)
  isplitl [H0]; · iexact H0
  isplitl [H1]; · iexists _; iexact H1
  isplitl [H2]; · iexact H2
  isplitl [H5]; · iexact H5
  isplitl [H6]; · iexact H6
  iintro ⟨H0, H1, H2, H5, H6⟩
  isplitl [H5 H6 Ha]
  · isplitl [H5 H6]
    · iexists baseTab; iexists (vertTab (F := F))
      isplitr; · ipureintro; exact Or.inr ⟨rfl, rfl⟩
      isplitl [H5]; · iexact H5
      iexact H6
    iexact Ha
  isplitl [Ho]; · iexact Ho
  isplitl [H0]; · iexact H0
  isplitl [H1]; · iexact H1
  iexists d2; iexact H2

/-- The body table's row at point `t`'s slots is the body there. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  rw [live1_1 t]
  cases hi : cfg1.idle 2 (cfg1.grid.coords t)
  · have h7 : k1_cond7 (grid1.coords t) = 1#1 := by
      rw [idle1_2] at hi; simpa using hi
    refine triple_restated (sound_body1 V c t) rfl .rfl fun _ => ?_
    unfold bodyPost1
    simp only [if_pos h7, after1_2]
    iintro ⟨HΦ, Ho, H0, H1, ⟨%d, H2⟩⟩
    isplitl [HΦ]; · iexact HΦ
    isplitl [Ho]; · iexact Ho
    isplitl [H0]; · iexact H0
    isplitl [H1]; · iexact H1
    iexact H2
  · have h7 : ¬ k1_cond7 (grid1.coords t) = 1#1 := by
      rw [idle1_2] at hi; simpa using hi
    cases hf : (cfg1.win 2).flush t
    · refine triple_restated (sound_body1 V c t) rfl .rfl fun _ => ?_
      unfold bodyPost1
      simp only [if_neg h7]
      exact .rfl
    · refine triple_restated (sound_body1 V c t) rfl .rfl fun _ => ?_
      unfold bodyPost1
      simp only [if_neg h7, before1_2 V c t hf, after1_2]
      iintro ⟨HΦ, Ho, H0, H1, ⟨%d, H2⟩⟩
      isplitl [HΦ]; · iexact HΦ
      isplitl [Ho]; · iexact Ho
      isplitl [H0]; · iexact H0
      isplitl [H1]; · iexact H1
      iexact H2

end Cert.KernelIdeal.Own

end
-- ==== Proof.Run.lean ====
/-
  The whole kernel program's run: the two calls as regions between the host operations, from any launch memory.
-/
module

public import proofs.«01_k».proof.Proof.Body1
public import Idealize.ShloMosaic.Lib.Pipeline.Frame
public import Idealize.ShloMosaic.Lib.Pipeline.FrameSuffix
public import Idealize.ShloMosaic.Lib.Pipeline.RegionsLoop

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the program's items -/

/-- At launch; -/
def W0 (c : Dev nD) : Valuation τ sig (Elt F) := fun b => m (c, b)
/-- after the first call, the masks stored; -/
def W1 (c : Dev nD) : Valuation τ sig (Elt F) := Function.update (W0 m c) main_v0 ((dat0 (W0 m) c).arrAt 1 cfg0.N)
/-- after the reshape between the calls; -/
def W2 (c : Dev nD) : Valuation τ sig (Elt F) := StableHlo.after hostOps1 (W1 m c)
/-- after the second call, the faces and the vertices stored; -/
def W3 (c : Dev nD) : Valuation τ sig (Elt F) :=
  Function.update (Function.update (W2 m c) main_v2_0 ((dat1 (W2 m) c).arrAt 1 cfg1.N)) main_v2_1 ((dat1 (W2 m) c).arrAt 2 cfg1.N)
/-- at the end. -/
def W4 (c : Dev nD) : Valuation τ sig (Elt F) := StableHlo.after hostOps2 (W3 m c)

theorem W1_v0 (c : Dev nD) : W1 m c main_v0 = (dat0 (W0 m) c).arrAt 1 cfg0.N := by
  unfold W1; rw [Function.update_self]
theorem W1_of (c : Dev nD) (r : Ref sig .tc) (h : r ≠ main_v0) : W1 m c r = W0 m c r := by
  unfold W1; rw [Function.update_of_ne (StableHlo.devRef_ne_of_ne h : (Proc.devRef .tc r : DevRef τ sig) ≠ Proc.devRef .tc main_v0)]
theorem W3_v2_1 (c : Dev nD) : W3 m c main_v2_1 = (dat1 (W2 m) c).arrAt 2 cfg1.N := by
  unfold W3; rw [Function.update_self]
theorem W3_v2_0 (c : Dev nD) : W3 m c main_v2_0 = (dat1 (W2 m) c).arrAt 1 cfg1.N := by
  unfold W3
  rw [Function.update_of_ne (StableHlo.devRef_ne_of_ne (by decide) : (Proc.devRef .tc main_v2_0 : DevRef τ sig) ≠ Proc.devRef .tc main_v2_1), Function.update_self]
theorem W3_of (c : Dev nD) (r : Ref sig .tc) (h0 : r ≠ main_v2_0) (h1 : r ≠ main_v2_1) : W3 m c r = W2 m c r := by
  unfold W3
  rw [Function.update_of_ne (StableHlo.devRef_ne_of_ne h1 : (Proc.devRef .tc r : DevRef τ sig) ≠ Proc.devRef .tc main_v2_1),
    Function.update_of_ne (StableHlo.devRef_ne_of_ne h0 : (Proc.devRef .tc r : DevRef τ sig) ≠ Proc.devRef .tc main_v2_0)]

/-- No item writes the argument. -/
theorem W4_arg0 (c : Dev nD) : W4 m c main_arg0 = m ((c : Thread nD τ).loc main_arg0) :=
  (StableHlo.after_of_writes_sub hostOps2 _ hostOps2_writes (by decide : main_arg0 ∉ hostOps2_W)).trans <|
    (W3_of m c main_arg0 (by decide) (by decide)).trans <|
    (StableHlo.after_of_writes_sub hostOps1 _ hostOps1_writes (by decide : main_arg0 ∉ hostOps1_W)).trans <|
    (W1_of m c main_arg0 (by decide)).trans rfl

/-! ## The items as segments -/

/-- Both calls' proof data. -/
def pdats : (p : Fin 2) → (c : Dev nD) → Dat τ (Elt F) Unit ℕ (UR sig nD τ) ℕ (cfgs p) c
  | ⟨0, _⟩ => fun c => dat0 (W0 m) c
  | ⟨1, _⟩ => fun c => dat1 (W2 m) c

/-- No core owes another anything: no level is assigned. -/
abbrev L : GSem nD τ sig → Finset Unit := fun _ => ∅
abbrev lv : GSem nD τ sig → Unit → ℕ := fun _ _ => 0
abbrev 𝒱₀ : Variants := Variants.none

/-- What rides beside the buffers: the generator register and that the core owes nothing. -/
abbrev R (c : Dev nD) : sProp 𝕄 := iprop((∃ r, prngReg c r) ∗ ∃ W, owes (c : Thread nD τ) (0 : CellTallies nD τ sig Unit) W)

/-- The reshape between the calls, -/
def host1 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R
/-- and the operations after them. -/
def host2 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) R

/-- What the first call's arrays hold at its end is what the next item finds, -/
theorem joined0 (c : Dev nD) : ∀ w : Fin 2, (dat0 (W0 m) c).arrAt w cfg0.N = W1 m c (Proc.devRef .tc (Pipeline.arrRef spec0 w))
  | ⟨0, _⟩ => ((dat0 (W0 m) c).arrAt_in 0 rfl _).trans ((A_eq0 (W0 m) c 0).trans (W1_of m c main_arg0 (by decide)).symm)
  | ⟨1, _⟩ => (W1_v0 m c).symm
/-- and the second call's likewise. -/
theorem joined1 (c : Dev nD) : ∀ w : Fin 3, (dat1 (W2 m) c).arrAt w cfg1.N = W3 m c (Proc.devRef .tc (Pipeline.arrRef spec1 w))
  | ⟨0, _⟩ => ((dat1 (W2 m) c).arrAt_in 0 rfl _).trans ((A_eq1 (W2 m) c 0).trans (W3_of m c main_v1 (by decide) (by decide)).symm)
  | ⟨1, _⟩ => (W3_v2_0 m c).symm
  | ⟨2, _⟩ => (W3_v2_1 m c).symm

theorem kept0 (c : Dev nD) (b : Ref sig .tc) (hb : b ∉ Finset.univ.image (Pipeline.arrRef spec0)) : W1 m c b = W0 m c b :=
  W1_of m c b fun h => hb (Finset.mem_image.mpr ⟨1, Finset.mem_univ _, h.symm⟩)
theorem kept1 (c : Dev nD) (b : Ref sig .tc) (hb : b ∉ Finset.univ.image (Pipeline.arrRef spec1)) : W3 m c b = W2 m c b :=
  W3_of m c b (fun h => hb (Finset.mem_image.mpr ⟨1, Finset.mem_univ _, h.symm⟩)) fun h => hb (Finset.mem_image.mpr ⟨2, Finset.mem_univ _, h.symm⟩)

-- the library's lemmas are stated at a pinned configuration: they unify when plain definitions may be unfolded in a
-- metavariable's type
set_option backward.isDefEq.respectTransparency.types false in
/-- The first call: entered from the launch contents, left with the masks stored. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (W0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (fun b => W0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => W0 m c b) (A_eq0 (W0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm launch0.win launch0.arr_whole c (pdats m)
      ((pdats m 0 c).share_full fun _ => rfl) (fun b => W0 m c b) (fun b => W1 m c b) ((pdats m 0 c).arrAt · cfg0.N) (joined0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second call's invariant at its first point, from the scoped buffers it stages nothing in, at anything; -/
theorem enter1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ iprop(scratchAt (F := F) c 0 ∗ aside (F := F) c) := by
  rw [scopedRest1_eq]; unfold scratchAt aside
  simp only [owns_whole]
  iintro ⟨Hp, -, Ha, Hb, Hc, ⟨%f, Hf⟩, ⟨%g, Hg⟩⟩
  isplitl [Hf Hg]
  · iexists f; iexists g
    isplitr; · ipureintro; exact Or.inl trivial
    isplitl [Hf]; · iexact Hf
    iexact Hg
  isplitl [Ha]; · iexact Ha
  isplitl [Hb]; · iexact Hb
  isplitl [Hc]; · iexact Hc
  iexact Hp

/-- and after its last, given back. -/
theorem leave1 (c : Dev nD) (n : ℕ) :
    iprop(scratchAt (F := F) c n ∗ aside (F := F) c)
      ⊢ (iprop((∃ r, prngReg c r) ∗ emp ∗ Pipeline.scopedRest (Ix := Unit) (Name := ℕ) (U := UR sig nD τ) (Lvl := ℕ) (Val := Elt F) spec1 c) : sProp 𝕄) := by
  rw [scopedRest1_eq]; unfold scratchAt aside
  simp only [owns_whole]
  iintro ⟨⟨%f, %g, -, Hf, Hg⟩, Ha, Hb, Hc, Hp⟩
  isplitl [Hp]; · iexact Hp
  isplitr; · iempintro
  isplitl [Ha]; · iexact Ha
  isplitl [Hb]; · iexact Hb
  isplitl [Hc]; · iexact Hc
  isplitl [Hf]; · iexists f; iexact Hf
  iexists g; iexact Hg

-- the library's lemmas are stated at a pinned configuration: they unify when plain definitions may be unfolded in a
-- metavariable's type
set_option backward.isDefEq.respectTransparency.types false in
/-- The second call: entered from the reshaped masks, left with the faces and the vertices stored. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (W2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W2 m c b) (A_eq1 (W2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(scratchAt c 0 ∗ aside c) from rfl]
    exact enter1 c _
  hout c := by
    rw [Pipeline.ownSems0_none, show (pdats m 1 c).Φ (Fin.last _) = iprop(scratchAt c cfg1.N ∗ aside c) from rfl]
    exact leave1 c _
  hexit c := by
    have hjoin := Pipeline.unscopedBufs_of_arrays (p := 1) (pcfgs (F := F)) adm launch1.win launch1.arr_whole c (pdats m)
      ((pdats m 1 c).share_full fun _ => rfl) (fun b => W2 m c b) (fun b => W3 m c b) ((pdats m 1 c).arrAt · cfg1.N) (joined1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- @main's items in order. -/
abbrev items : List (Pipeline.Seg (pcfgs (F := F)) adm (pdats m) () defs₀ 𝒱₀ L lv) :=
  [.region (reg0 m), .host (host1 m), .region (reg1 m), .host (host2 m)]

set_option backward.isDefEq.respectTransparency.types false in
/-- From any memory with zero counters every weakly fair execution of the program ends, with the argument as launched,
    the two results at what the items leave in them, and every counter at zero. -/
theorem run (ρ : Dev nD → PrngReg) :
    θ_run defs (onTc (τ := τ) (main (F := F))) ⟨m, fun _ => 0, ρ⟩ (fun r => (∀ c : Dev nD,
        r.2.mem ((c : Thread nD τ).loc main_arg0) = m ((c : Thread nD τ).loc main_arg0)
        ∧ r.2.mem ((c : Thread nD τ).loc main_v5) = W4 m c main_v5
        ∧ r.2.mem ((c : Thread nD τ).loc main_v6) = W4 m c main_v6)
      ∧ r.2.sem = fun _ => 0) := by
  refine Pipeline.θ_run_regions_kit_dev_sems (pcfgs (F := F)) adm (pdats m) () cellOf_inj emb₁ defs₀ 𝒱₀ L lv m ρ main
    (fun _ => items m)
    (fun c Q => by
      rewrite [main_chain c, Pipeline.Seg.run_eq_chain,
        show (items m).map Pipeline.Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m c) ∗ R c))
    (Tₙ := fun c => StableHlo.held (c : Thread nD τ) (Pipeline.ucRefs τ sig) (W4 m c))
    (hch := fun c => ⟨.rfl, .rfl, .rfl, .rfl, sep_mono .rfl ?_⟩)
    (hinit := ?_)
    (QY := fun c s => s.mem ((c : Thread nD τ).loc main_arg0) = m ((c : Thread nD τ).loc main_arg0)
        ∧ s.mem ((c : Thread nD τ).loc main_v5) = W4 m c main_v5
        ∧ s.mem ((c : Thread nD τ).loc main_v6) = W4 m c main_v6)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨-, HO⟩; iexact HO
  · refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W4_arg0 m c),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩)⟩
    · iexact HSI

end Cert.KernelIdeal.Own

end
-- ==== Proof.Same.lean ====
/-
  The kernel as printed: the ideal pass replaced nothing, so its program is the other's text and the run carries over.
-/
module

public import proofs.«01_k».proof.Proof.Run
public import proofs.«01_k».proof.Proof.Gen.Kernel

@[expose] public section

set_option maxRecDepth 16384

noncomputable section

namespace Cert.Kernel.Own

open Idealize.ShloMosaic Idealize.ShloMosaic.TcCoe Idealize.SL Idealize.SL.Sem

variable {F : FTy → Type} [FloatOps F]

/-- The two programs' kernels' body tables are one, -/
theorem same_bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, _ => rfl
  | 1, _ => rfl

/-- the tables with the pipelines', -/
theorem same_defs : Cert.Kernel.defs (F := F) = Cert.KernelIdeal.defs (F := F) :=
  congrArg (Pipeline.defs Cert.KernelIdeal.pcfgs) same_bodies

/-- and @main. -/
theorem same_main : Cert.Kernel.main (F := F) = Cert.KernelIdeal.main (F := F) := rfl

/-- The kernel as printed runs, leaves its argument as launched and every counter at zero. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) := by
  rw [same_defs, same_main]
  exact (θ_run (Cert.KernelIdeal.defs (F := F)) (onTc (τ := Cert.KernelIdeal.τ) (Cert.KernelIdeal.main (F := F))) ⟨m, fun _ => 0, g⟩).mono
    (fun r h => ⟨fun c => (h.1 c).1, h.2⟩) (Cert.KernelIdeal.Own.run m g)

end Cert.Kernel.Own

end
-- ==== Proof.Spec.lean ====
/-
  What both programs compute, at an index: the faces and the vertices of the cubified voxels.

  A voxel is exposed in a direction when its probability is above one half and its neighbour's there, taken cyclically,
  is not. Directions 0 to 5 are the previous and the next along the first, the second and the third axis. Each exposed
  side is two triangles, of corners 0, 1, 2 and 1, 2, 3 of its quad; the corner of a voxel `(z, y, x)` has the number
  `(z * 49 + y) * 49 + x` plus an offset that depends on the direction and the corner alone.
-/
module

public import Idealize.ShloMosaic.Lib.Pointwise
public import Idealize.ShloMosaic.Lib.WordCmp
public import Idealize.ShloMosaic.Lib.IdealHost

@[expose] public section

set_option maxRecDepth 16384

noncomputable section

namespace Cert.Spec

open Idealize.ShloMosaic

/-- The threshold, one half. -/
abbrev half : EReal := Ideal.ofBits .f32 0x3F000000#32

/-- The previous coordinate and the next, cyclically. -/
def prevC (a : Fin 48) : Fin 48 := ⟨(a.val + 47) % 48, Nat.mod_lt _ (by omega)⟩
def nextC (a : Fin 48) : Fin 48 := ⟨(a.val + 1) % 48, Nat.mod_lt _ (by omega)⟩

/-- The neighbour's probability in direction `d`. -/
def nbr (V : Fin 48 → Fin 48 → Fin 48 → EReal) (d : Nat) (z y x : Fin 48) : EReal :=
  match d with
  | 0 => V (prevC z) y x
  | 1 => V (nextC z) y x
  | 2 => V z (prevC y) x
  | 3 => V z (nextC y) x
  | 4 => V z y (prevC x)
  | _ => V z y (nextC x)

/-- The voxel is exposed in direction `d`. -/
def Exposed (V : Fin 48 → Fin 48 → Fin 48 → EReal) (d : Nat) (z y x : Fin 48) : Prop :=
  half < V z y x ∧ nbr V d z y x ≤ half

/-- The offset of corner `c` of direction `d`'s quad: 2401 for a step along the first axis, 49 along the second, 1 along
    the third. -/
def deltaN (d c : Nat) : Nat :=
  match d, c with
  | 0, 0 => 0 | 0, 1 => 1 | 0, 2 => 49 | 0, _ => 50
  | 1, 0 => 2401 | 1, 1 => 2402 | 1, 2 => 2450 | 1, _ => 2451
  | 2, 0 => 2401 | 2, 1 => 2402 | 2, 2 => 0 | 2, _ => 1
  | 3, 0 => 49 | 3, 1 => 50 | 3, 2 => 2450 | 3, _ => 2451
  | 4, 0 => 2401 | 4, 1 => 0 | 4, 2 => 2450 | 4, _ => 49
  | _, 0 => 1 | _, 1 => 2402 | _, 2 => 50 | _, _ => 2451

/-- The number of corner `w` of triangle `t` of direction `d`'s quad at a voxel. -/
def cornerN (d t w z y x : Nat) : Nat := (z * 49 + y) * 49 + x + deltaN d (t + w)

open Classical in
/-- One entry of the faces: the corner's number where the voxel is exposed, else -1. -/
def face (V : Fin 48 → Fin 48 → Fin 48 → EReal) (d : Nat) (z y x : Fin 48) (t w : Nat) : BitVec 32 :=
  if Exposed V d z y x then BitVec.ofNat 32 (cornerN d t w z.val y.val x.val) else 4294967295#32

/-- The coordinates of a face's number. -/
def fz (f : Nat) : Fin 48 := ⟨f / 4608 % 48, Nat.mod_lt _ (by omega)⟩
def fy (f : Nat) : Fin 48 := ⟨f / 96 % 48, Nat.mod_lt _ (by omega)⟩
def fx (f : Nat) : Fin 48 := ⟨f / 2 % 48, Nat.mod_lt _ (by omega)⟩

/-- The faces' array at batch `n`, face `f`, corner `w`. -/
def faceAt (X : FVec Ideal ⟨4, ![4, 48, 48, 48]⟩ .f32) (n : Fin 4) (f w : Nat) : BitVec 32 :=
  face (fun z y x => X (ix4 n z y x)) (f / 221184) (fz f) (fy f) (fx f) (f % 2) w

/-- The coordinate of vertex `v` along axis `a`. -/
def vertN (v a : Nat) : Nat := if a = 0 then v / 2401 else if a = 1 then v / 49 % 49 else v % 49

/-- The vertices' array at vertex `v` and axis `a`: the coordinate less one half. -/
def vertAt (v a : Nat) : EReal :=
  FloatOps.subf (F := Ideal) (φ := .f32) (FloatOps.sitofp .f32 (BitVec.ofNat 32 (vertN v a))) (FloatOps.ofBits .f32 0x3F000000#32)

/-! ## Rolls and masks -/

/-- A roll towards the next: the last entry in front. -/
theorem roll_prev {α : Type} (f : Fin 48 → α) (z : Fin 48) (h1 : z.val < 1 → 47 + z.val < 48) (h2 : ¬ z.val < 1 → z.val - 1 < 48) :
    (if h : z.val < 1 then f ⟨47 + z.val, h1 h⟩ else f ⟨z.val - 1, h2 h⟩) = f (prevC z) := by
  split <;> exact congrArg f (Fin.ext (by simp only [prevC]; omega))

/-- A roll towards the previous: the first entry behind. -/
theorem roll_next {α : Type} (f : Fin 48 → α) (z : Fin 48) (h1 : z.val < 47 → 1 + z.val < 48) (h2 : ¬ z.val < 47 → z.val - 47 < 48) :
    (if h : z.val < 47 then f ⟨1 + z.val, h1 h⟩ else f ⟨z.val - 47, h2 h⟩) = f (nextC z) := by
  split <;> exact congrArg f (Fin.ext (by simp only [nextC]; omega))

open Classical in
/-- A mask, selected on the two comparisons, is one where the voxel is exposed and zero elsewhere. -/
theorem select_mask (V : Fin 48 → Fin 48 → Fin 48 → EReal) (d : Nat) (z y x : Fin 48) (b : EReal) (hb : b = nbr V d z y x) :
    Scalar.select (IntOp.andi (BitVec.ofBool (decide (half < V z y x))) (BitVec.ofBool (decide (b ≤ half)))) (1 : EReal) 0
      = if Exposed V d z y x then 1 else 0 := by
  subst hb
  unfold Exposed
  by_cases h1 : half < V z y x <;> by_cases h2 : nbr V d z y x ≤ half <;>
    simp [h1, h2, Scalar.select, IntOp.andi]

/-- The bf16 word of one half lies between zero and one. -/
theorem half_bf16 : (0 : EReal) ≤ Ideal.ofBits .bf16 0x3F00#16 ∧ Ideal.ofBits .bf16 0x3F00#16 < 1 := by
  have h : Ideal.ofBits .bf16 0x3F00#16 = (((1 : ℝ) / 2 : ℝ) : EReal) := by
    simp [Ideal.ofBits, Ideal.ieee, -EReal.coe_mul]; norm_num
  rw [h]
  refine ⟨?_, ?_⟩
  · exact_mod_cast (by norm_num : (0 : ℝ) ≤ 1 / 2)
  · exact_mod_cast (by norm_num : (1 : ℝ) / 2 < 1)

end Cert.Spec

end
-- ==== Proof.MaskValue.lean ====
/-
  The mask the first `pallas_call` stores for a batch and a direction, at an index: row `z`, column `q` of its block is
  one where voxel `(z, q / 96, q / 2 % 48)` is exposed in the direction, and zero elsewhere.
-/
module

public import proofs.«01_k».proof.Proof.Mask
public import proofs.«01_k».proof.Proof.Spec

@[expose] public section

set_option maxRecDepth 16384

noncomputable section

namespace Cert.KernelIdeal.Own

open Cert.KernelIdeal Cert.KernelIdeal.Gen Cert.Spec
open Idealize.ShloMosaic Idealize.ShloMosaic.TcCoe Idealize.ShloMosaic.WordCmp

set_option maxHeartbeats 1000000 in
open Classical in
/-- A mask at an index. -/
theorem maskOf_at (v : FVec Ideal S1x48x48x48 .f32) (d : Fin 6) (z : Fin 48) (q : Fin 4608) :
    maskOf (F := Ideal) d.val v (ix4 0 0 z q)
      = if Exposed (fun z y x => v (ix4 0 z y x)) d.val z ⟨q.val / 96, by omega⟩ ⟨q.val / 2 % 48, by omega⟩ then (1 : EReal) else 0 := by
  match d with
  | ⟨0, _⟩ =>
    rw [maskOf_0]; pointwise [k0_pay1]
    exact select_mask (fun z y x => v (ix4 0 z y x)) 0 z ⟨q.val / 96, by omega⟩ ⟨q.val / 2 % 48, by omega⟩ _ (roll_prev (fun k => v (ix4 0 k ⟨q.val / 96, by omega⟩ ⟨q.val / 2 % 48, by omega⟩)) z _ _)
  | ⟨1, _⟩ =>
    rw [maskOf_1]; pointwise [k0_pay2]
    exact select_mask (fun z y x => v (ix4 0 z y x)) 1 z ⟨q.val / 96, by omega⟩ ⟨q.val / 2 % 48, by omega⟩ _ (roll_next (fun k => v (ix4 0 k ⟨q.val / 96, by omega⟩ ⟨q.val / 2 % 48, by omega⟩)) z _ _)
  | ⟨2, _⟩ =>
    rw [maskOf_2]; pointwise [k0_pay3]
    exact select_mask (fun z y x => v (ix4 0 z y x)) 2 z ⟨q.val / 96, by omega⟩ ⟨q.val / 2 % 48, by omega⟩ _ (roll_prev (fun k => v (ix4 0 z k ⟨q.val / 2 % 48, by omega⟩)) ⟨q.val / 96, by omega⟩ _ _)
  | ⟨3, _⟩ =>
    rw [maskOf_3]; pointwise [k0_pay4]
    exact select_mask (fun z y x => v (ix4 0 z y x)) 3 z ⟨q.val / 96, by omega⟩ ⟨q.val / 2 % 48, by omega⟩ _ (roll_next (fun k => v (ix4 0 z k ⟨q.val / 2 % 48, by omega⟩)) ⟨q.val / 96, by omega⟩ _ _)
  | ⟨4, _⟩ =>
    rw [maskOf_4]; pointwise [k0_pay5]
    exact select_mask (fun z y x => v (ix4 0 z y x)) 4 z ⟨q.val / 96, by omega⟩ ⟨q.val / 2 % 48, by omega⟩ _ (roll_prev (fun k => v (ix4 0 z ⟨q.val / 96, by omega⟩ k)) ⟨q.val / 2 % 48, by omega⟩ _ _)
  | ⟨5, _⟩ =>
    rw [maskOf_5]; pointwise [k0_pay6]
    exact select_mask (fun z y x => v (ix4 0 z y x)) 5 z ⟨q.val / 96, by omega⟩ ⟨q.val / 2 % 48, by omega⟩ _ (roll_next (fun k => v (ix4 0 z ⟨q.val / 96, by omega⟩ k)) ⟨q.val / 2 % 48, by omega⟩ _ _)

end Cert.KernelIdeal.Own

end
-- ==== Proof.Array0.lean ====
/-
  The masks' array after the first `pallas_call`, at an index.
-/
module

public import proofs.«01_k».proof.Proof.MaskValue
public import Idealize.ShloMosaic.Lib.Pipeline.ValueKit

@[expose] public section

set_option maxRecDepth 16384

noncomputable section

namespace Cert.KernelIdeal.Own

open Cert.KernelIdeal Cert.KernelIdeal.Gen Cert.Spec
open Idealize.ShloMosaic Idealize.ShloMosaic.TcCoe Idealize.ShloMosaic.WordCmp
open Idealize.SL.Sem
open Idealize.ShloMosaic.Pipeline (Dat)

open Classical in
/-- The mask of one batch's voxels `V` in direction `d` at row `z` and column `q`. -/
def masksV (V : Fin 48 → Fin 48 → Fin 48 → EReal) (d : ℕ) (z : Fin 48) (q : Fin 4608) : EReal :=
  if Exposed V d z ⟨q.val / 96, by omega⟩ ⟨q.val / 2 % 48, by omega⟩ then 1 else 0

/-- The masks of the voxels `X` at direction `d`, batch `n`, row `z` and column `q`. -/
def masksN (X : FVec Ideal S4x48x48x48 .f32) (d : ℕ) (n : Fin 4) (z : Fin 48) (q : Fin 4608) : EReal :=
  masksV (fun z y x => X (ix4 n z y x)) d z q

/-- The masks' array. -/
def masks (X : FVec Ideal S4x48x48x48 .f32) : FVec Ideal S6x4x48x4608 .bf16 :=
  fun i => masksN X (i 0).val (i 1) (i 2) (i 3)

/-- A mask is read by the values of its indices. -/
theorem masksN_congr (X : FVec Ideal S4x48x48x48 .f32) {d d' : ℕ} {n n' : Fin 4} {z z' : Fin 48} {q q' : Fin 4608}
    (hd : d = d') (hn : n.val = n'.val) (hz : z.val = z'.val) (hq : q.val = q'.val) : masksN X d n z q = masksN X d' n' z' q' := by
  subst hd; cases Fin.ext hn; cases Fin.ext hz; cases Fin.ext hq; rfl

/-- An index of the block is its row and its column. -/
theorem split0 (y : S1x1x48x4608.Idx) : ∃ (z : Fin 48) (q : Fin 4608), y = ix4 0 0 z q := by
  idx_vars y
  exact ⟨y2, y3, by rw [Subsingleton.elim y0 0, Subsingleton.elim y1 0]⟩

/-- The first call's index maps: the voxels whole, the masks' block of the point's direction and batch. -/
theorem idx0 : ∀ t : Fin cfg0.N, win0_0.index t = ![0, 0, 0, 0] ∧ win0_1.index t = ![(grid0.coords t 0).val, (grid0.coords t 1).val, 0, 0] :=
  (by decide +kernel : ∀ t : Fin grid0.N, _)

variable (V : Dev nD → Valuation τ sig (Elt Ideal))

/-- A load of batch `n`, at an index. -/
theorem ld_batch (x : FVec Ideal S4x48x48x48 .f32) (n : ℕ) (h : n < 4) (z y w : Fin 48) :
    (View.ld (Val := Elt Ideal) (e' := .f32) x (batch n h)) (ix4 0 z y w) = x (ix4 ⟨n, h⟩ z y w) := by
  refine congrArg x (funext fun a => Fin.ext ?_)
  match a with
  | ⟨0, _⟩ => rfl
  | ⟨1, _⟩ => show 0 + 1 * z.val = z.val; omega
  | ⟨2, _⟩ => show 0 + 1 * y.val = y.val; omega
  | ⟨3, _⟩ => show 0 + 1 * w.val = w.val; omega

/-- What the body leaves at an index of its block. -/
theorem out0_at (i : grid0.Coords) (x : FVec Ideal S4x48x48x48 .f32) (z : Fin 48) (q : Fin 4608) :
    out0 (F := Ideal) i x (ix4 0 0 z q) = masksN x (i 0).val (i 1) z q := by
  unfold out0
  rw [View.canon_cons_unit_lit _ _ _ (by decide)]
  rw [maskOf_at _ (i 0)]
  exact congrArg (fun V => masksV V (i 0).val z q)
    (funext fun z => funext fun y => funext fun w => ld_batch x (i 1).val (i 1).isLt z y w)

/-- The masks' array after the first call. -/
theorem arr0 (c : Dev nD) : (dat0 V c).arrAt 1 cfg0.N = masks (V c main_arg0) := by
  refine (dat0 V c).arrAt_eq_of_covers 1 _ (by decide +kernel) fun t _ y => ?_
  blk_simp
  rw [after0_1]
  obtain ⟨z, q, rfl⟩ := split0 y
  have hb : iblk0 V c 0 t = V c main_arg0 := by blk_ext! [iblk0, idx0 t]
  rw [hb, out0_at]
  unfold masks
  refine masksN_congr _ ?_ ?_ ?_ ?_ <;> blk_simp [idx0 t]
  all_goals rfl

end Cert.KernelIdeal.Own

end
-- ==== Proof.Words.lean ====
/-
  Words: the floor division and the modulus by a positive constant, as they are printed elementwise (a quotient or a
  remainder corrected where the signs differ), on a word that is a natural number below 2^31.
-/
module

public import Idealize.ShloMosaic.Lib.WordCmp
public import Idealize.ShloMosaic.Lib.Affine
public import Idealize.ShloMosaic.Lib.Routing.BitFacts

@[expose] public section

set_option maxRecDepth 16384

noncomputable section

namespace Cert.Words

open Idealize.ShloMosaic Idealize.ShloMosaic.WordCmp

/-- The sign of a word as printed: the bit of `a > 0` less the bit of `a < 0`, both widened. -/
abbrev sgn (a : BitVec 32) : BitVec 32 :=
  IntOp.subi (BitVec.setWidth 32 (IntOp.cmpi .sgt a 0#32)) (BitVec.setWidth 32 (IntOp.cmpi .slt a 0#32))

/-- The floor division as printed: the quotient, less one where the signs differ and the remainder is not zero. -/
abbrev fdiv (a k : BitVec 32) : BitVec 32 :=
  Scalar.select (IntOp.andi (IntOp.cmpi .ne (sgn a) (sgn k)) (IntOp.cmpi .ne (IntOp.remsi .vector a k) 0#32))
    (IntOp.subi (IntOp.divsi .vector a k) 1#32) (IntOp.divsi .vector a k)

/-- The divisor of the printed modulus: one in the place of zero. -/
abbrev modulus (k : BitVec 32) : BitVec 32 := Scalar.select (IntOp.cmpi .eq k 0#32) 1#32 k

/-- The modulus as printed: the remainder, plus the divisor where the signs differ and the remainder is not zero. -/
abbrev fmod (a k : BitVec 32) : BitVec 32 :=
  Scalar.select (IntOp.andi (IntOp.xori (IntOp.cmpi .slt (IntOp.remsi .vector a (modulus k)) 0#32) (IntOp.cmpi .slt (modulus k) 0#32))
      (IntOp.cmpi .ne (IntOp.remsi .vector a (modulus k)) 0#32))
    (IntOp.addi (IntOp.remsi .vector a (modulus k)) (modulus k)) (IntOp.remsi .vector a (modulus k))

variable {n k : Nat}

/-- A positive number below 2^31 is no corner of signed division. -/
theorem no_corner (h0 : 0 < k) (hk : k < 2 ^ 31) (a : BitVec 32) : ¬ IntOp.SDivCorner a (BitVec.ofNat 32 k) :=
  IntOp.not_corner_of_pos (by rw [toInt_ofNat_of_lt (w := 32) hk]; omega)

/-- The signed quotient of two numbers below 2^31. -/
theorem divsi_ofNat (u : ArithUnit) (hn : n < 2 ^ 31) (h0 : 0 < k) (hk : k < 2 ^ 31) :
    IntOp.divsi u (BitVec.ofNat 32 n) (BitVec.ofNat 32 k) = BitVec.ofNat 32 (n / k) := by
  unfold IntOp.divsi
  rw [if_neg (no_corner h0 hk _), BitVec.sdiv_eq, Routing.msb_ofNat32 hn, Routing.msb_ofNat32 hk]
  exact Routing.udiv_ofNat32 (by omega) (by omega)

/-- The signed remainder of two numbers below 2^31. -/
theorem remsi_ofNat (u : ArithUnit) (hn : n < 2 ^ 31) (h0 : 0 < k) (hk : k < 2 ^ 31) :
    IntOp.remsi u (BitVec.ofNat 32 n) (BitVec.ofNat 32 k) = BitVec.ofNat 32 (n % k) := by
  unfold IntOp.remsi
  rw [if_neg (no_corner h0 hk _), BitVec.srem_eq, Routing.msb_ofNat32 hn, Routing.msb_ofNat32 hk]
  exact Routing.umod_ofNat32 (by omega) (by omega)

/-- The sign of a positive number is one. -/
theorem sgn_pos (h0 : 0 < n) (hn : n < 2 ^ 31) : sgn (BitVec.ofNat 32 n) = 1#32 := by
  have h1 : IntOp.cmpi .sgt (BitVec.ofNat 32 n) 0#32 = 1#1 := (cmpi_sgt_ofNat_eq_one_iff (w := 32) hn (by omega)).2 h0
  have h2 : IntOp.cmpi .slt (BitVec.ofNat 32 n) 0#32 = 0#1 := (cmpi_slt_ofNat_eq_zero_iff (w := 32) hn (by omega)).2 (by omega)
  unfold sgn; rw [h1, h2]; decide

/-- The floor division of a number below 2^31 by a positive one is the quotient. -/
theorem fdiv_ofNat (hn : n < 2 ^ 31) (h0 : 0 < k) (hk : k < 2 ^ 31) :
    fdiv (BitVec.ofNat 32 n) (BitVec.ofNat 32 k) = BitVec.ofNat 32 (n / k) := by
  unfold fdiv
  rw [divsi_ofNat _ hn h0 hk, remsi_ofNat _ hn h0 hk]
  rcases Nat.eq_zero_or_pos n with h | h
  · subst h
    have : IntOp.cmpi .ne (BitVec.ofNat 32 (0 % k)) 0#32 = 0#1 := by rw [Nat.zero_mod]; decide
    rw [this]
    have h2 : ∀ c : BitVec 1, IntOp.andi c 0#1 = 0#1 := by decide
    rw [h2]; rfl
  · rw [sgn_pos h hn, sgn_pos h0 hk]
    have : IntOp.cmpi .ne (1#32 : BitVec 32) 1#32 = 0#1 := by decide
    rw [this]
    have h2 : ∀ c : BitVec 1, IntOp.andi 0#1 c = 0#1 := by decide
    rw [h2]; rfl

/-- The modulus of a number below 2^31 by a positive one is the remainder. -/
theorem fmod_ofNat (hn : n < 2 ^ 31) (h0 : 0 < k) (hk : k < 2 ^ 31) :
    fmod (BitVec.ofNat 32 n) (BitVec.ofNat 32 k) = BitVec.ofNat 32 (n % k) := by
  have hm : modulus (BitVec.ofNat 32 k) = BitVec.ofNat 32 k := by
    have : IntOp.cmpi .eq (BitVec.ofNat 32 k) 0#32 = 0#1 := (cmpi_eq_ofNat_eq_zero_iff (w := 32) (by omega) (by omega)).2 (by omega)
    unfold modulus; rw [this]; rfl
  have hr : n % k < k := Nat.mod_lt _ h0
  have h1 : IntOp.cmpi .slt (BitVec.ofNat 32 (n % k)) 0#32 = 0#1 := (cmpi_slt_ofNat_eq_zero_iff (w := 32) (by omega) (by omega)).2 (by omega)
  have h2 : IntOp.cmpi .slt (BitVec.ofNat 32 k) 0#32 = 0#1 := (cmpi_slt_ofNat_eq_zero_iff (w := 32) (by omega) (by omega)).2 (by omega)
  unfold fmod
  rw [hm, remsi_ofNat _ hn h0 hk, h1, h2]
  have h3 : ∀ c : BitVec 1, IntOp.andi (IntOp.xori 0#1 0#1) c = 0#1 := by decide
  rw [h3]; rfl

/-- The arithmetic shift to the right by one of a number below 2^31 is its half. -/
theorem shrsi_one_ofNat (u : ArithUnit) (hn : n < 2 ^ 31) : IntOp.shrsi u (BitVec.ofNat 32 n) 1#32 = BitVec.ofNat 32 (n / 2) := by
  have h : IntOp.shrsi u (BitVec.ofNat 32 n) 1#32 = (BitVec.ofNat 32 n).sshiftRight 1 := by
    unfold IntOp.shrsi; rfl
  rw [h]
  apply BitVec.eq_of_toNat_eq
  rw [BitVec.sshiftRight_eq_of_msb_false (Routing.msb_ofNat32 hn), BitVec.toNat_ushiftRight, toNat_ofNat_of_lt (w := 32) (by omega),
    toNat_ofNat_of_lt (w := 32) (by omega), Nat.shiftRight_eq_div_pow]

/-- The last bit of a number. -/
theorem andi_one_ofNat (hn : n < 2 ^ 31) : IntOp.andi (BitVec.ofNat 32 n) 1#32 = BitVec.ofNat 32 (n % 2) := by
  apply BitVec.eq_of_toNat_eq
  show (BitVec.ofNat 32 n &&& 1#32).toNat = _
  rw [BitVec.toNat_and, toNat_ofNat_of_lt (w := 32) (by omega), toNat_ofNat_of_lt (w := 32) (by omega),
    toNat_ofNat_of_lt (w := 32) (by omega)]
  exact Nat.and_one_is_mod n

end Cert.Words

end
-- ==== Proof.Tables.lean ====
/-
  The two tables of the second `pallas_call`, and its corner offsets, at an index.

  The first table holds, at row `s` and lane `l`, twice the corner number of the voxel plus the triangle's parity: with
  `g = (s / 4) * 128 + l`, the parity is `g % 2` and the voxel is number `g / 2` of its third. The second holds the
  coordinates of the vertices less one half.
-/
module

public import proofs.«01_k».proof.Proof.Faces
public import proofs.«01_k».proof.Proof.Words
public import Idealize.ShloMosaic.Lib.Pointwise

@[expose] public section

set_option maxRecDepth 16384

noncomputable section

namespace Cert.KernelIdeal.Own

open Cert.KernelIdeal Cert.KernelIdeal.Gen Cert.Words
open Idealize.ShloMosaic Idealize.ShloMosaic.TcCoe Idealize.ShloMosaic.WordCmp

/-! ## The table of corner numbers -/

/-- The face's position among those of its third and batch: rows `4 r`, `4 r + 1`, `4 r + 2`, `4 r + 3` are the same faces of the four batches. -/
theorem pay3_at (s : Fin 2304) (l : Fin 128) : k1_pay3 (ix2 s l) = BitVec.ofNat 32 (s.val / 4 * 128 + l.val) := by
  have h : k1_pay3 (ix2 s l) = IntOp.addi (IntOp.muli (fdiv (BitVec.ofNat 32 (0 * 2304 + s.val)) (BitVec.ofNat 32 4)) (BitVec.ofNat 32 128))
      (BitVec.ofNat 32 (0 * 128 + l.val)) := rfl
  rw [h, fdiv_ofNat (by omega) (by omega) (by omega), muli_ofNat, addi_ofNat]
  simp only [Nat.zero_mul, Nat.zero_add]

/-- The parity of the triangle. -/
theorem pay4_at (s : Fin 2304) (l : Fin 128) : k1_pay4 (ix2 s l) = BitVec.ofNat 32 ((s.val / 4 * 128 + l.val) % 2) := by
  have h : k1_pay4 (ix2 s l) = fmod (k1_pay3 (ix2 s l)) (BitVec.ofNat 32 2) := rfl
  rw [h, pay3_at, fmod_ofNat (by omega) (by omega) (by omega)]

/-- The voxel's number in the third. -/
theorem pay5_at (s : Fin 2304) (l : Fin 128) : k1_pay5 k1_pay3 2#32 (ix2 s l) = BitVec.ofNat 32 ((s.val / 4 * 128 + l.val) / 2) := by
  have h : k1_pay5 k1_pay3 2#32 (ix2 s l) = fdiv (k1_pay3 (ix2 s l)) (BitVec.ofNat 32 2) := rfl
  rw [h, pay3_at, fdiv_ofNat (by omega) (by omega) (by omega)]

/-- The voxel's last coordinate. -/
theorem pay6_at (s : Fin 2304) (l : Fin 128) : k1_pay6 k1_pay3 2#32 (ix2 s l) = BitVec.ofNat 32 ((s.val / 4 * 128 + l.val) / 2 % 48) := by
  have h : k1_pay6 k1_pay3 2#32 (ix2 s l) = fmod (k1_pay5 k1_pay3 2#32 (ix2 s l)) (BitVec.ofNat 32 48) := rfl
  rw [h, pay5_at, fmod_ofNat (by omega) (by omega) (by omega)]

/-- The voxel's middle coordinate. -/
theorem pay9_at (s : Fin 2304) (l : Fin 128) :
    k1_pay9 (k1_pay5 k1_pay3 2#32) 48#32 (k1_pay7 k1_pay3 2#32) (k1_pay8 k1_pay3 2#32) 0#32 (ix2 s l)
      = BitVec.ofNat 32 ((s.val / 4 * 128 + l.val) / 2 / 48 % 48) := by
  have h : k1_pay9 (k1_pay5 k1_pay3 2#32) 48#32 (k1_pay7 k1_pay3 2#32) (k1_pay8 k1_pay3 2#32) 0#32 (ix2 s l)
      = fmod (fdiv (k1_pay5 k1_pay3 2#32 (ix2 s l)) (BitVec.ofNat 32 48)) (BitVec.ofNat 32 48) := rfl
  rw [h, pay5_at, fdiv_ofNat (by omega) (by omega) (by omega), fmod_ofNat (by omega) (by omega) (by omega)]

/-- The number the table holds for position `g` of a third: twice the corner number, plus the parity. -/
def baseN (g : Nat) : Nat := ((g / 2 / 2304 * 49 + g / 2 / 48 % 48) * 49 + g / 2 % 48) * 2 + g % 2

/-- The table of corner numbers at a row and a lane. -/
theorem baseTab_at (s : Fin 2304) (l : Fin 128) : baseTab (ix2 s l) = BitVec.ofNat 32 (baseN (s.val / 4 * 128 + l.val)) := by
  have h : baseTab (ix2 s l) = IntOp.addi (IntOp.muli (IntOp.addi (IntOp.muli (IntOp.addi (IntOp.muli
        (fdiv (k1_pay5 k1_pay3 2#32 (ix2 s l)) (BitVec.ofNat 32 2304)) (BitVec.ofNat 32 49))
        (k1_pay9 (k1_pay5 k1_pay3 2#32) 48#32 (k1_pay7 k1_pay3 2#32) (k1_pay8 k1_pay3 2#32) 0#32 (ix2 s l))) (BitVec.ofNat 32 49))
        (k1_pay6 k1_pay3 2#32 (ix2 s l))) (BitVec.ofNat 32 2)) (k1_pay4 (ix2 s l)) := by
    unfold baseTab k1_pay12
    rw [shapeCast_self]
    rfl
  rw [h, pay4_at, pay5_at, pay6_at, pay9_at, fdiv_ofNat (by omega) (by omega) (by omega)]
  simp only [muli_ofNat, addi_ofNat]
  rfl

/-! ## The vertex table -/

/-- The coordinate of a vertex along axis `a`: row `z`, position `q = y * 147 + x * 3 + a` in it. -/
def coordN (z q : Nat) : Nat := if q % 3 = 0 then z else if q % 3 = 1 then q / 3 / 49 else q / 3 % 49

variable {F : FTy → Type} [FloatOps F]

/-- The vertex table at a row and a position: the coordinate less one half. -/
theorem vertTab_at (z : Fin 49) (q : Fin 7203) :
    vertTab (F := F) (ix2 z q)
      = FloatOps.subf (FloatOps.sitofp .f32 (BitVec.ofNat 32 (coordN z.val q.val))) (FloatOps.ofBits .f32 0x3F000000#32) := by
  have h13 : k1_pay13 (ix2 z q) = BitVec.ofNat 32 (q.val % 3) := by
    have h : k1_pay13 (ix2 z q) = fmod (BitVec.ofNat 32 (0 * 7203 + q.val)) (BitVec.ofNat 32 3) := rfl
    rw [h, Nat.zero_mul, Nat.zero_add, fmod_ofNat (by omega) (by omega) (by omega)]
  have h15 : k1_pay15 (iota .tc S49x7203 32 [1] iota_S49x7203_d1_w32) 3#32 k1_pay14 (ix2 z q) = BitVec.ofNat 32 (q.val / 3) := by
    have h : k1_pay15 (iota .tc S49x7203 32 [1] iota_S49x7203_d1_w32) 3#32 k1_pay14 (ix2 z q)
        = fdiv (BitVec.ofNat 32 (0 * 7203 + q.val)) (BitVec.ofNat 32 3) := rfl
    rw [h, Nat.zero_mul, Nat.zero_add, fdiv_ofNat (by omega) (by omega) (by omega)]
  have h : vertTab (F := F) (ix2 z q)
      = FloatOps.subf (FloatOps.sitofp .f32 (Scalar.select (IntOp.cmpi .eq (k1_pay13 (ix2 z q)) (BitVec.ofNat 32 0)) (BitVec.ofNat 32 (0 * 49 + z.val))
          (Scalar.select (IntOp.cmpi .eq (k1_pay13 (ix2 z q)) (BitVec.ofNat 32 1))
            (fdiv (k1_pay15 (iota .tc S49x7203 32 [1] iota_S49x7203_d1_w32) 3#32 k1_pay14 (ix2 z q)) (BitVec.ofNat 32 49))
            (fmod (k1_pay15 (iota .tc S49x7203 32 [1] iota_S49x7203_d1_w32) 3#32 k1_pay14 (ix2 z q)) (BitVec.ofNat 32 49)))))
          (FloatOps.ofBits .f32 0x3F000000#32) := by
    unfold vertTab k1_pay22
    rw [shapeCast_self]
    rfl
  rw [h, h13, h15, fdiv_ofNat (by omega) (by omega) (by omega), fmod_ofNat (by omega) (by omega) (by omega),
    cmpi_eq_ofNat (by omega) (by omega), cmpi_eq_ofNat (by omega) (by omega), Nat.zero_mul, Nat.zero_add]
  unfold coordN
  by_cases h0 : q.val % 3 = 0
  · rw [if_pos h0, decide_eq_true h0]; rfl
  · rw [if_neg h0, decide_eq_false h0]
    by_cases h1 : q.val % 3 = 1
    · rw [if_pos h1, decide_eq_true h1]; rfl
    · rw [if_neg h1, decide_eq_false h1]; rfl

end Cert.KernelIdeal.Own

end
-- ==== Proof.FacesValue.lean ====
/-
  What the second `pallas_call`'s body leaves in its faces' block, at an index.

  At the grid point `(c, w)`, direction `c / 3` and third `c % 3` of the first axis, row `s` and lane `l` of the block hold
  corner `w` of face `g = (s / 4) * 128 + l` of that third in batch `s % 4`.
-/
module

public import proofs.«01_k».proof.Proof.Tables
public import proofs.«01_k».proof.Proof.Spec

@[expose] public section

set_option maxRecDepth 16384

noncomputable section

namespace Cert.KernelIdeal.Own

open Cert.KernelIdeal Cert.KernelIdeal.Gen Cert.Words Cert.Spec
open Idealize.ShloMosaic Idealize.ShloMosaic.TcCoe Idealize.ShloMosaic.WordCmp

/-- The third and the corner offsets at every grid point. -/
theorem point_words : ∀ i : grid1.Coords, thirdOf i = BitVec.ofNat 32 ((i 0).val % 3)
    ∧ extractAt ![0] (k1_pay33 (offsets (dirOf i) (BitVec.ofNat 32 (i 1).val))) inpos_S1_p0 = BitVec.ofNat 32 (deltaN ((i 0).val / 3) (i 1).val)
    ∧ extractAt ![0] (k1_pay34 (offsets (dirOf i) (BitVec.ofNat 32 (i 1).val))) inpos_S1_p0 = BitVec.ofNat 32 (deltaN ((i 0).val / 3) ((i 1).val + 1)) := by
  decide +kernel

/-- Where the body loads its batches' thirds. -/
theorem point_offs : ∀ i : grid1.Coords, k1_off1 i 0#32 = ![0, (i 0).val % 3 * 16, 0] ∧ k1_off1 i 48#32 = ![0, 48 + (i 0).val % 3 * 16, 0]
    ∧ k1_off1 i 96#32 = ![0, 96 + (i 0).val % 3 * 16, 0] ∧ k1_off1 i 144#32 = ![0, 144 + (i 0).val % 3 * 16, 0] := by
  decide +kernel

/-- The stack of the four batches' thirds at a row and a lane. -/
theorem pay24_at (v : Fin 4 → FVec Ideal S1x16x4608 .bf16) (s : Fin 2304) (l : Fin 128) :
    k1_pay24 (F := Ideal) (k1_pay23 (F := Ideal) (v 0)) (v 1) (v 2) (v 3) (ix2 s l)
      = v ⟨s.val % 4, by omega⟩ (ix3 0 ⟨s.val / 4 / 36, by omega⟩ ⟨s.val / 4 % 36 * 128 + l.val, by omega⟩) := by
  pointwise [k1_pay24, k1_pay23]
  have h : s.val % 4 = 0 ∨ s.val % 4 = 1 ∨ s.val % 4 = 2 ∨ s.val % 4 = 3 := by omega
  have e : ∀ k : Fin 4, s.val % 4 = k.val → (⟨s.val % 4, by omega⟩ : Fin 4) = k := fun k hk => Fin.ext hk
  rcases h with h | h | h | h
  · rw [dif_pos (by omega), e 0 h]
  · rw [dif_neg (by omega), dif_pos (by omega), e 1 h]
  · rw [dif_neg (by omega), dif_neg (by omega), dif_pos (by omega), e 2 h]
  · rw [dif_neg (by omega), dif_neg (by omega), dif_neg (by omega), e 3 h]

/-- The body's faces at a row and a lane, from the stack of masks, the third and the two offsets. -/
theorem pay1_at (q o0 o1 : ℕ) (v : FVec Ideal S2304x128 .bf16) (s : Fin 2304) (l : Fin 128) (hq : q < 3) (ho : o0 < 5000) (ho1 : o1 < 5000) :
    k1_pay1 (F := Ideal) (BitVec.ofNat 32 q) v (k1_pay31 (F := Ideal) baseTab) (k1_pay32 (F := Ideal) baseTab) (BitVec.ofNat 32 o0) (BitVec.ofNat 32 o1) (ix3 0 s l)
      = Scalar.select (BitVec.ofBool (decide (Ideal.ofBits .bf16 0x3F00#16 < v (ix2 s l))))
          (BitVec.ofNat 32 (baseN (s.val / 4 * 128 + l.val) / 2 + ((if baseN (s.val / 4 * 128 + l.val) % 2 = 0 then o0 else o1) + q * 16 * 49 * 49)))
          4294967295#32 := by
  have hb : baseN (s.val / 4 * 128 + l.val) < 2 ^ 31 := by unfold baseN; omega
  pointwise [k1_pay1, k1_pay31, k1_pay32]
  rw [baseTab_at, shrsi_one_ofNat _ hb, andi_one_ofNat hb, cmpi_eq_ofNat (by omega) (by omega)]
  have hs : Scalar.select (BitVec.ofBool (decide (baseN (s.val / 4 * 128 + l.val) % 2 = 0))) (BitVec.ofNat 32 o0) (BitVec.ofNat 32 o1)
      = BitVec.ofNat 32 (if baseN (s.val / 4 * 128 + l.val) % 2 = 0 then o0 else o1) := by
    by_cases h : baseN (s.val / 4 * 128 + l.val) % 2 = 0
    · rw [if_pos h, decide_eq_true h]; rfl
    · rw [if_neg h, decide_eq_false h]; rfl
  have hm : Scalar.muli (Scalar.muli (Scalar.muli (BitVec.ofNat 32 q) 16#32) 49#32) 49#32 = BitVec.ofNat 32 (q * 16 * 49 * 49) := by
    show IntOp.muli (IntOp.muli (IntOp.muli (BitVec.ofNat 32 q) (BitVec.ofNat 32 16)) (BitVec.ofNat 32 49)) (BitVec.ofNat 32 49) = _
    rw [muli_ofNat, muli_ofNat, muli_ofNat]
  rw [hs, hm, addi_ofNat, addi_ofNat]

/-- The corner's number from the table's: at position `g` of third `q`. -/
theorem base_corner (g q d w : ℕ) (hg : g < 73728) (hq : q < 3) :
    baseN g / 2 + ((if baseN g % 2 = 0 then deltaN d w else deltaN d (w + 1)) + q * 16 * 49 * 49)
      = cornerN d (g % 2) w (q * 16 + g / 4608) (g / 96 % 48) (g / 2 % 48) := by
  have h2 : baseN g % 2 = g % 2 := by unfold baseN; omega
  have h1 : baseN g / 2 = (g / 2 / 2304 * 49 + g / 2 / 48 % 48) * 49 + g / 2 % 48 := by unfold baseN; omega
  rw [h1, h2]
  unfold cornerN
  rcases Nat.mod_two_eq_zero_or_one g with h | h
  · rw [h, if_pos rfl, Nat.zero_add]; omega
  · rw [h, if_neg (by omega), Nat.add_comm 1 w]; omega

/-- The masks' block row that batch `n` and row `z` of third `q` are in. -/
theorem third_row (n q z : ℕ) (hn : n < 4) (hq : q < 3) (hz : z < 16) : n * 48 + (q * 16 + z) < 192 := by omega

/-- A load of one third of a batch, at an index. -/
theorem ld_third (x : FVec Ideal S1x192x4608 .bf16) (off : Fin 3 → ℕ) (inb : ∀ a, off a + S1x16x4608.size a ≤ S1x192x4608.size a) (r : ℕ)
    (h : off = ![0, r, 0]) (z : Fin 16) (q : Fin 4608) (hr : r + z.val < 192) :
    (View.ld (Val := Elt Ideal) (e' := .bf16) x (Rect.unit (s := S1x192x4608) off S1x16x4608.size inb)) (ix3 0 z q) = x (ix3 0 ⟨r + z.val, hr⟩ q) := by
  subst h
  refine congrArg x (funext fun a => Fin.ext ?_)
  match a with
  | ⟨0, _⟩ => rfl
  | ⟨1, _⟩ => show r + 1 * z.val = r + z.val; omega
  | ⟨2, _⟩ => show 0 + 1 * q.val = q.val; omega

/-- The loads of the four batches' thirds. -/
def thirds (i : grid1.Coords) (x : FVec Ideal S1x192x4608 .bf16) : Fin 4 → FVec Ideal S1x16x4608 .bf16
  | 0 => View.ld (Val := Elt Ideal) (e' := .bf16) x (third0 i)
  | 1 => View.ld (Val := Elt Ideal) (e' := .bf16) x (third1 i)
  | 2 => View.ld (Val := Elt Ideal) (e' := .bf16) x (third2 i)
  | 3 => View.ld (Val := Elt Ideal) (e' := .bf16) x (third3 i)

/-- Each of them, at an index. -/
theorem thirds_at (i : grid1.Coords) (x : FVec Ideal S1x192x4608 .bf16) (n : Fin 4) (z : Fin 16) (q : Fin 4608) :
    thirds i x n (ix3 0 z q) = x (ix3 0 ⟨n.val * 48 + ((i 0).val % 3 * 16 + z.val), third_row _ _ _ n.isLt (Nat.mod_lt _ (by omega)) z.isLt⟩ q) := by
  obtain ⟨h0, h1, h2, h3⟩ := point_offs i
  have hm : (i 0).val % 3 < 3 := Nat.mod_lt _ (by omega)
  have hc : ∀ (r r' : ℕ) (hr : r < 192) (hr' : r' < 192), r = r' → x (ix3 0 ⟨r, hr⟩ q) = x (ix3 0 ⟨r', hr'⟩ q) := by
    intro r r' hr hr' e; subst e; rfl
  match n with
  | 0 => exact (ld_third x _ _ _ h0 z q (by omega)).trans (hc _ _ _ _ (by show _ = 0 * 48 + (_ + _); omega))
  | 1 => exact (ld_third x _ _ _ h1 z q (by omega)).trans (hc _ _ _ _ (by show _ = 1 * 48 + (_ + _); omega))
  | 2 => exact (ld_third x _ _ _ h2 z q (by omega)).trans (hc _ _ _ _ (by show _ = 2 * 48 + (_ + _); omega))
  | 3 => exact (ld_third x _ _ _ h3 z q (by omega)).trans (hc _ _ _ _ (by show _ = 3 * 48 + (_ + _); omega))

/-- The body's faces' block at a row and a lane. -/
theorem outF_at (i : grid1.Coords) (x : FVec Ideal S1x192x4608 .bf16) (s : Fin 2304) (l : Fin 128) :
    outF (F := Ideal) i x (ix3 0 s l)
      = Scalar.select (BitVec.ofBool (decide (Ideal.ofBits .bf16 0x3F00#16
            < x (ix3 0 ⟨s.val % 4 * 48 + ((i 0).val % 3 * 16 + s.val / 4 / 36),
                  third_row _ _ _ (Nat.mod_lt _ (by omega)) (Nat.mod_lt _ (by omega)) (by omega)⟩ ⟨s.val / 4 % 36 * 128 + l.val, by omega⟩))))
          (BitVec.ofNat 32 (cornerN ((i 0).val / 3) ((s.val / 4 * 128 + l.val) % 2) (i 1).val ((i 0).val % 3 * 16 + (s.val / 4 * 128 + l.val) / 4608)
            ((s.val / 4 * 128 + l.val) / 96 % 48) ((s.val / 4 * 128 + l.val) / 2 % 48)))
          4294967295#32 := by
  obtain ⟨hq, h0, h1⟩ := point_words i
  have hm : (i 0).val % 3 < 3 := Nat.mod_lt _ (by omega)
  have hd : ∀ d c, deltaN d c < 5000 := by
    intro d c; unfold deltaN; split <;> omega
  unfold outF
  rw [hq, h0, h1]
  refine (pay1_at ((i 0).val % 3) _ _ _ s l hm (hd _ _) (hd _ _)).trans ?_
  rw [base_corner _ _ _ _ (by omega) hm]
  have h := (pay24_at (thirds i x) s l).trans (thirds_at i x _ _ _)
  exact congrArg (fun e : EReal => Scalar.select (BitVec.ofBool (decide (Ideal.ofBits .bf16 0x3F00#16 < e))) _ _) h

end Cert.KernelIdeal.Own

end
-- ==== Proof.Array1.lean ====
/-
  The faces' and the vertices' arrays after the second `pallas_call`, at an index.
-/
module

public import proofs.«01_k».proof.Proof.FacesValue
public import proofs.«01_k».proof.Proof.Body1
public import Idealize.ShloMosaic.Lib.Pipeline.ValueKit

@[expose] public section

set_option maxRecDepth 16384

noncomputable section

namespace Cert.KernelIdeal.Own

open Cert.KernelIdeal Cert.KernelIdeal.Gen Cert.Spec
open Idealize.ShloMosaic Idealize.ShloMosaic.TcCoe Idealize.ShloMosaic.WordCmp
open Idealize.SL.Sem
open Idealize.ShloMosaic.Pipeline (Dat)

/-- The corner number of column-group `c` and corner `w` at a row and a lane, where the masks' plane `x` is set. -/
def facesX (x : Fin 192 → Fin 4608 → EReal) (c w : ℕ) (s : Fin 2304) (l : Fin 128) : BitVec 32 :=
  Scalar.select (BitVec.ofBool (decide (Ideal.ofBits .bf16 0x3F00#16
      < x ⟨s.val % 4 * 48 + (c % 3 * 16 + s.val / 4 / 36), third_row _ _ _ (Nat.mod_lt _ (by omega)) (Nat.mod_lt _ (by omega)) (by omega)⟩
          ⟨s.val / 4 % 36 * 128 + l.val, by omega⟩)))
    (BitVec.ofNat 32 (cornerN (c / 3) ((s.val / 4 * 128 + l.val) % 2) w (c % 3 * 16 + (s.val / 4 * 128 + l.val) / 4608)
      ((s.val / 4 * 128 + l.val) / 96 % 48) ((s.val / 4 * 128 + l.val) / 2 % 48)))
    4294967295#32

/-- The direction a row of the faces' array belongs to. -/
theorem row_dir (r : Fin 41472) : r.val / 2304 / 3 < 6 := by omega

/-- The faces' array, of the masks' array `M`. -/
def facesArr (M : FVec Ideal S6x192x4608 .bf16) : S3x41472x128.Idx → BitVec 32 :=
  fun i => facesX (fun r q => M (ix3 ⟨(i 1).val / 2304 / 3, row_dir (i 1)⟩ r q)) ((i 1).val / 2304) (i 0).val
    ⟨(i 1).val % 2304, Nat.mod_lt _ (by omega)⟩ (i 2)

/-- The corner number is read by the values of its arguments. -/
theorem facesX_congr {x x' : Fin 192 → Fin 4608 → EReal} {c c' w w' : ℕ} {s s' : Fin 2304} {l l' : Fin 128} (hx : x = x')
    (hc : c = c') (hw : w = w') (hs : s.val = s'.val) (hl : l.val = l'.val) : facesX x c w s l = facesX x' c' w' s' l' := by
  subst hx hc hw; cases Fin.ext hs; cases Fin.ext hl; rfl

/-- The second call's index maps. -/
theorem idx1 : ∀ t : Fin cfg1.N, win1_0.index t = ![(grid1.coords t 0).val / 3, 0, 0]
    ∧ win1_1.index t = ![(grid1.coords t 1).val, (grid1.coords t 0).val, 0] ∧ win1_2.index t = ![(grid1.coords t 0).val / 5, 0, 0] :=
  (by decide +kernel : ∀ t : Fin grid1.N, _)

/-- An index of the faces' block is its row and its lane. -/
theorem split1 (y : S1x2304x128.Idx) : ∃ (s : Fin 2304) (l : Fin 128), y = ix3 0 s l := by
  idx_vars y
  exact ⟨y1, y2, by rw [Subsingleton.elim y0 0]⟩

/-- An index of the vertices' block is its row and its column. -/
theorem split2 (y : S1x49x7203.Idx) : ∃ (z : Fin 49) (q : Fin 7203), y = ix3 0 z q := by
  idx_vars y
  exact ⟨y1, y2, by rw [Subsingleton.elim y0 0]⟩

variable (V : Dev nD → Valuation τ sig (Elt Ideal))

/-- The masks' block at a grid point, at an index. -/
theorem iblk1_at (c : Dev nD) (t : Fin cfg1.N) (r : Fin 192) (q : Fin 4608) (d : Fin 6) (hd : d.val = (grid1.coords t 0).val / 3) :
    iblk1 V c 0 t (ix3 0 r q) = V c main_v1 (ix3 d r q) := by
  blk_simp [iblk1]
  refine congrArg (V c main_v1) (funext fun a => Fin.ext ?_)
  match a with
  | ⟨0, _⟩ => blk_simp [idx1 t]; exact hd.symm
  | ⟨1, _⟩ => blk_simp [idx1 t]
  | ⟨2, _⟩ => blk_simp [idx1 t]

/-- The faces' array after the second call. -/
theorem arr1 (c : Dev nD) : (dat1 V c).arrAt 1 cfg1.N = facesArr (V c main_v1) := by
  refine (dat1 V c).arrAt_eq_of_covers 1 _ (by decide +kernel) fun t _ y => ?_
  blk_simp
  rw [after1_1]
  obtain ⟨s, l, rfl⟩ := split1 y
  refine (outF_at (grid1.coords t) (iblk1 V c 0 t) s l).trans ?_
  unfold facesArr
  have hc : ((grid1.coords t 0).val * 2304 + s.val) / 2304 = (grid1.coords t 0).val := by omega
  refine facesX_congr (x := fun r q => iblk1 V c 0 t (ix3 0 r q)) (c := (grid1.coords t 0).val) (w := (grid1.coords t 1).val) (s := s) (l := l)
    ?_ ?_ ?_ ?_ ?_
  all_goals blk_simp [idx1 t]
  · exact funext fun r => funext fun q => iblk1_at V c t r q _ (by show _ / 2304 / 3 = _; rw [hc])
  · exact hc.symm
  · rfl
  · show s.val = (_ * 2304 + s.val) % 2304; omega

/-- The vertices' array, the same table in each batch. -/
def vertsArr : FVec Ideal S4x49x7203 .f32 := fun i => vertTab (F := Ideal) (ix2 (i 1) (i 2))

/-- The table is read by the values of its indices. -/
theorem vertTab_congr {z z' : Fin 49} {q q' : Fin 7203} (hz : z.val = z'.val) (hq : q.val = q'.val) :
    vertTab (F := Ideal) (ix2 z q) = vertTab (F := Ideal) (ix2 z' q') := by
  cases Fin.ext hz; cases Fin.ext hq; rfl

/-- The stored block is the table. -/
theorem outV_at (z : Fin 49) (q : Fin 7203) : outV (F := Ideal) (ix3 0 z q) = vertTab (F := Ideal) (ix2 z q) := by
  pointwise [outV, k1_pay2]

/-- The vertices' array after the second call. -/
theorem arr2 (c : Dev nD) : (dat1 V c).arrAt 2 cfg1.N = vertsArr := by
  refine (dat1 V c).arrAt_eq_of_covers 2 _ (by decide +kernel) fun t _ y => ?_
  blk_simp
  rw [after1_2]
  obtain ⟨z, q, rfl⟩ := split2 y
  rw [outV_at]
  unfold vertsArr
  refine vertTab_congr ?_ ?_ <;> blk_simp [idx1 t]
  all_goals rfl

end Cert.KernelIdeal.Own

end
-- ==== Proof.KernelValue.lean ====
/-
  The kernel program's results, at an index: the faces and the vertices.
-/
module

public import proofs.«01_k».proof.Proof.Array0
public import proofs.«01_k».proof.Proof.Array1
public import proofs.«01_k».proof.Proof.Run
public import Idealize.ShloMosaic.Lib.Claim

@[expose] public section

set_option maxRecDepth 16384

noncomputable section

namespace Cert.KernelIdeal.Own

open Cert.KernelIdeal Cert.KernelIdeal.Gen Cert.Spec
open Idealize.ShloMosaic Idealize.ShloMosaic.TcCoe Idealize.ShloMosaic.WordCmp
open Idealize.SL.Sem
open Idealize.ShloMosaic.Pipeline (Dat)

/-! ## The arrays as functions -/

/-- The masks with batch and row joined. -/
def joinedM (M : FVec Ideal S6x4x48x4608 .bf16) : FVec Ideal S6x192x4608 .bf16 := shapeCast S6x192x4608 M shapeCasts_S6x4x48x4608_S6x192x4608

/-- At an index: the batch is the row divided by 48. -/
theorem joinedM_at (M : FVec Ideal S6x4x48x4608 .bf16) (d : Fin 6) (r : Fin 192) (q : Fin 4608) :
    joinedM M (ix3 d r q) = M (ix4 d ⟨r.val / 48, by omega⟩ ⟨r.val % 48, by omega⟩ q) := by
  pointwise [joinedM]

/-- The faces after the program's last layout operations. -/
def facesOut (A : S3x41472x128.Idx → BitVec 32) : S4x1327104x3.Idx → BitVec 32 :=
  shapeCast S4x1327104x3 (transpose S4x10368x128x3 [2, 1, 3, 0] (shapeCast S3x10368x4x128 A shapeCasts_S3x41472x128_S3x10368x4x128)
    transposes_S3x10368x4x128_S4x10368x128x3_2_1_3_0) shapeCasts_S4x10368x128x3_S4x1327104x3

/-- At an index. -/
theorem facesOut_at (A : S3x41472x128.Idx → BitVec 32) (n : Fin 4) (f : Fin 1327104) (w : Fin 3) :
    facesOut A (ix3 n f w) = A (ix3 w ⟨f.val / 128 * 4 + n.val, by omega⟩ ⟨f.val % 128, by omega⟩) := by
  pointwise [facesOut]

/-- The vertices after the program's last reshape. -/
def vertsOut (A : FVec Ideal S4x49x7203 .f32) : FVec Ideal S4x117649x3 .f32 := shapeCast S4x117649x3 A shapeCasts_S4x49x7203_S4x117649x3

/-- At an index. -/
theorem vertsOut_at (A : FVec Ideal S4x49x7203 .f32) (n : Fin 4) (v : Fin 117649) (a : Fin 3) :
    vertsOut A (ix3 n v a) = A (ix3 n ⟨v.val / 2401, by omega⟩ ⟨v.val % 2401 * 3 + a.val, by omega⟩) := by
  pointwise [vertsOut]

open Classical in
/-- The mask read against one half, as a proposition. -/
theorem mask_half (p : Prop) (u v : BitVec 32) :
    Scalar.select (BitVec.ofBool (decide (Ideal.ofBits .bf16 0x3F00#16 < (if p then (1 : EReal) else 0)))) u v = if p then u else v := by
  by_cases h : p
  · rw [if_pos h, if_pos h, decide_eq_true half_bf16.2]; rfl
  · rw [if_neg h, if_neg h, decide_eq_false (not_lt.mpr half_bf16.1)]; rfl

open Classical in
/-- The faces' entry, read by the values of its coordinates. -/
theorem face_of (X : FVec Ideal S4x48x48x48 .f32) {n n' : Fin 4} {d d' dc t t' w zc yc xc : ℕ} {z z' y y' x x' : Fin 48} (hn : n.val = n'.val)
    (hd : d = d') (hdc : dc = d') (ht : t = t') (hz : z.val = z'.val) (hy : y.val = y'.val) (hx : x.val = x'.val) (hzc : zc = z'.val)
    (hyc : yc = y'.val) (hxc : xc = x'.val) :
    (if Exposed (fun a b c => X (ix4 n a b c)) d z y x then BitVec.ofNat 32 (cornerN dc t w zc yc xc) else 4294967295#32)
      = face (fun a b c => X (ix4 n' a b c)) d' z' y' x' t' w := by
  subst hd hdc ht hzc hyc hxc; cases Fin.ext hn; cases Fin.ext hz; cases Fin.ext hy; cases Fin.ext hx; rfl

/-- The faces' array of the masks, at an index. -/
theorem facesArr_at (X : FVec Ideal S4x48x48x48 .f32) (n : Fin 4) (f : Fin 1327104) (w : Fin 3) :
    facesArr (joinedM (masks X)) (ix3 w ⟨f.val / 128 * 4 + n.val, by omega⟩ ⟨f.val % 128, by omega⟩) = faceAt X n f.val w.val := by
  show facesX (fun r q => joinedM (masks X) (ix3 ⟨(f.val / 128 * 4 + n.val) / 2304 / 3, by omega⟩ r q)) ((f.val / 128 * 4 + n.val) / 2304) w.val
    ⟨(f.val / 128 * 4 + n.val) % 2304, by omega⟩ ⟨f.val % 128, by omega⟩ = _
  unfold facesX
  beta_reduce
  rw [joinedM_at]
  unfold masks masksN masksV
  rw [mask_half]
  have hs : (f.val / 128 * 4 + n.val) % 2304 % 4 = n.val := by omega
  have hg : (f.val / 128 * 4 + n.val) % 2304 / 4 = f.val / 128 % 576 := by omega
  have hc : (f.val / 128 * 4 + n.val) / 2304 = f.val / 73728 := by omega
  refine face_of X ?_ ?_ ?_ ?_ ?_ ?_ ?_ ?_ ?_ ?_
  all_goals try dsimp only [fz, fy, fx, ix4]
  all_goals (simp only [hs, hg, hc]; clear hs hg hc; omega)

/-- The kernel's faces, of the voxels. -/
theorem faces_at (X : FVec Ideal S4x48x48x48 .f32) (n : Fin 4) (f : Fin 1327104) (w : Fin 3) :
    facesOut (facesArr (joinedM (masks X))) (ix3 n f w) = faceAt X n f.val w.val :=
  (facesOut_at _ n f w).trans (facesArr_at X n f w)

/-- The kernel's vertices. -/
theorem verts_at (n : Fin 4) (v : Fin 117649) (a : Fin 3) : vertsOut vertsArr (ix3 n v a) = vertAt v.val a.val := by
  refine (vertsOut_at _ n v a).trans ((vertTab_at (F := Ideal) ⟨v.val / 2401, by omega⟩ ⟨v.val % 2401 * 3 + a.val, by omega⟩).trans ?_)
  have h : coordN (v.val / 2401) (v.val % 2401 * 3 + a.val) = vertN v.val a.val := by
    unfold coordN vertN
    have ha : a.val = 0 ∨ a.val = 1 ∨ a.val = 2 := by omega
    rcases ha with h | h | h <;> rw [h] <;> (repeat' split) <;> omega
  unfold vertAt
  rw [← h]

/-! ## The program's buffers -/

variable (m : (ℓ : Loc nD τ sig) → Buf (Elt Ideal) ℓ)

theorem W2_v1 (c : Dev nD) : W2 m c main_v1 = joinedM (W1 m c main_v0) := by
  unfold W2
  after_results
  try rfl

theorem W4_v5 (c : Dev nD) : W4 m c main_v5 = facesOut (W3 m c main_v2_0) := by
  unfold W4
  after_results
  try rfl

theorem W4_v6 (c : Dev nD) : W4 m c main_v6 = vertsOut (W3 m c main_v2_1) := by
  unfold W4
  after_results
  try rfl

/-- The faces at the end of the program. -/
theorem faces_end (c : Dev nD) : W4 m c main_v5 = facesOut (facesArr (joinedM (masks (m ((c : Thread nD τ).loc main_arg0))))) := by
  rw [W4_v5, W3_v2_0, arr1, W2_v1, W1_v0, arr0]
  rfl

/-- The vertices at the end of the program. -/
theorem verts_end (c : Dev nD) : W4 m c main_v6 = vertsOut vertsArr := by
  rw [W4_v6, W3_v2_1, arr2]

end Cert.KernelIdeal.Own

end
-- ==== Proof.RefQuads.lean ====
/-
  The reference program's corner numbers, at an index.
-/
module

public import proofs.«01_k».proof.Proof.Spec
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Own

open Cert.ReferenceIdeal Cert.ReferenceIdeal.Gen Cert.ReferenceIdeal.Read Cert.Spec
open Idealize.ShloMosaic Idealize.ShloMosaic.TcCoe Idealize.ShloMosaic.WordCmp Idealize.ShloMosaic.StableHlo
open Idealize.SL.Sem

/-! ## Corners -/

/-- The same word everywhere. -/
def splat (k : BitVec 32) : IVec S48x48x48 32 := broadcastInDim S48x48x48 ![] bcast_S_S48x48x48 (constantI S_ 32 k)

/-- One step on, where `b` says so. -/
def up (b : Bool) (v : IVec S48x48x48 32) : IVec S48x48x48 32 := bif b then addi v (splat 1#32) else v

/-- The grid number of the corner `a`, `b`, `c` steps from a voxel. -/
def vid (a b c : Bool) : IVec S48x48x48 32 :=
  addi (muli (addi (muli (up a (val_main_v30 (F := Ideal))) (splat 49#32)) (up b (val_main_v31 (F := Ideal)))) (splat 49#32))
    (up c (val_main_v32 (F := Ideal)))

/-- A step on, at an index. -/
theorem up_at (b : Bool) (v : IVec S48x48x48 32) (i : S48x48x48.Idx) (n : ℕ) (h : v i = BitVec.ofNat 32 n) :
    up b v i = BitVec.ofNat 32 (n + b.toNat) := by
  cases b
  · exact h
  · show IntOp.addi (v i) (BitVec.ofNat 32 1) = _
    rw [h, addi_ofNat]; rfl

/-- The corner's number, at a voxel. -/
theorem vid_at (a b c : Bool) (z y x : Fin 48) :
    vid a b c (ix3 z y x) = BitVec.ofNat 32 (((z.val + a.toNat) * 49 + (y.val + b.toNat)) * 49 + (x.val + c.toNat)) := by
  have hz : val_main_v30 (F := Ideal) (ix3 z y x) = BitVec.ofNat 32 z.val := by pointwise [val_main_v30, val_main_v27]
  have hy : val_main_v31 (F := Ideal) (ix3 z y x) = BitVec.ofNat 32 y.val := by pointwise [val_main_v31, val_main_v28]
  have hx : val_main_v32 (F := Ideal) (ix3 z y x) = BitVec.ofNat 32 x.val := by pointwise [val_main_v32, val_main_v29]
  show IntOp.addi (IntOp.muli (IntOp.addi (IntOp.muli (up a _ (ix3 z y x)) (BitVec.ofNat 32 49)) (up b _ (ix3 z y x))) (BitVec.ofNat 32 49))
    (up c _ (ix3 z y x)) = _
  rw [up_at a _ _ _ hz, up_at b _ _ _ hy, up_at c _ _ _ hx, muli_ofNat, addi_ofNat, muli_ofNat, addi_ofNat]

/-! ## Quads -/

/-- The three corners of a triangle, side by side. -/
def tri (A B C : IVec S48x48x48 32) : IVec S48x48x48x3 32 :=
  concatenate S48x48x48x3 3 [⟨S48x48x48x1, (broadcastInDim S48x48x48x1 ![0, 1, 2] bcast_S48x48x48_S48x48x48x1_0_1_2 A : IVec S48x48x48x1 32)⟩,
    ⟨S48x48x48x1, (broadcastInDim S48x48x48x1 ![0, 1, 2] bcast_S48x48x48_S48x48x48x1_0_1_2 B : IVec S48x48x48x1 32)⟩,
    ⟨S48x48x48x1, (broadcastInDim S48x48x48x1 ![0, 1, 2] bcast_S48x48x48_S48x48x48x1_0_1_2 C : IVec S48x48x48x1 32)⟩]
    concatenates_S48x48x48x1_S48x48x48x1_S48x48x48x1_S48x48x48x3_d3

/-- A quad's two triangles. -/
def quad (A B C D : IVec S48x48x48 32) : IVec S48x48x48x2x3 32 :=
  concatenate S48x48x48x2x3 3 [⟨S48x48x48x1x3, (broadcastInDim S48x48x48x1x3 ![0, 1, 2, 4] bcast_S48x48x48x3_S48x48x48x1x3_0_1_2_4 (tri A B C) : IVec S48x48x48x1x3 32)⟩,
    ⟨S48x48x48x1x3, (broadcastInDim S48x48x48x1x3 ![0, 1, 2, 4] bcast_S48x48x48x3_S48x48x48x1x3_0_1_2_4 (tri B C D) : IVec S48x48x48x1x3 32)⟩]
    concatenates_S48x48x48x1x3_S48x48x48x1x3_S48x48x48x2x3_d3

/-- A corner of a triangle of a quad. -/
theorem quad_at (A B C D : IVec S48x48x48 32) (z y x : Fin 48) (t : Fin 2) (w : Fin 3) (f : ℕ → BitVec 32)
    (hA : A (ix3 z y x) = f 0) (hB : B (ix3 z y x) = f 1) (hC : C (ix3 z y x) = f 2) (hD : D (ix3 z y x) = f 3) :
    quad A B C D (ix5 z y x t w) = f (t.val + w.val) := by
  pointwise [quad, tri]
  rw [hA, hB, hC, hD]
  (repeat' split) <;> exact congrArg f (by omega)

/-- The six directions' quads. -/
def q0 := quad (vid false false false) (vid false false true) (vid false true false) (vid false true true)
def q1 := quad (vid true false false) (vid true false true) (vid true true false) (vid true true true)
def q2 := quad (vid true false false) (vid true false true) (vid false false false) (vid false false true)
def q3 := quad (vid false true false) (vid false true true) (vid true true false) (vid true true true)
def q4 := quad (vid true false false) (vid false false false) (vid true true false) (vid false true false)
def q5 := quad (vid false false true) (vid true false true) (vid false true true) (vid true true true)

theorem v259_eq : val_main_v259 (F := Ideal) = q0 := rfl
theorem v270_eq : val_main_v270 (F := Ideal) = q1 := rfl
theorem v281_eq : val_main_v281 (F := Ideal) = q2 := rfl
theorem v292_eq : val_main_v292 (F := Ideal) = q3 := rfl
theorem v303_eq : val_main_v303 (F := Ideal) = q4 := rfl
theorem v314_eq : val_main_v314 (F := Ideal) = q5 := rfl

/-- The corner `k` of direction `d`'s quad at a voxel, by its number. -/
def numF (d : ℕ) (z y x : Fin 48) (k : ℕ) : BitVec 32 := BitVec.ofNat 32 ((z.val * 49 + y.val) * 49 + x.val + deltaN d k)

/-- A corner's number, from its steps. -/
theorem vid_num (a b c : Bool) (d k : ℕ) (z y x : Fin 48) (h : deltaN d k = a.toNat * 2401 + b.toNat * 49 + c.toNat) :
    vid a b c (ix3 z y x) = numF d z y x k := by
  rw [vid_at]
  unfold numF
  rw [h]
  exact congrArg (BitVec.ofNat 32) (by omega)

/-- All directions' corners, joined. -/
theorem v321_at (d : Fin 6) (z y x : Fin 48) (t : Fin 2) (w : Fin 3) :
    val_main_v321 (F := Ideal) (ix6 d z y x t w) = numF d.val z y x (t.val + w.val) := by
  have h0 : q0 (ix5 z y x t w) = numF 0 z y x (t.val + w.val) :=
    quad_at _ _ _ _ z y x t w (numF 0 z y x) (vid_num _ _ _ _ _ _ _ _ rfl) (vid_num _ _ _ _ _ _ _ _ rfl) (vid_num _ _ _ _ _ _ _ _ rfl) (vid_num _ _ _ _ _ _ _ _ rfl)
  have h1 : q1 (ix5 z y x t w) = numF 1 z y x (t.val + w.val) :=
    quad_at _ _ _ _ z y x t w (numF 1 z y x) (vid_num _ _ _ _ _ _ _ _ rfl) (vid_num _ _ _ _ _ _ _ _ rfl) (vid_num _ _ _ _ _ _ _ _ rfl) (vid_num _ _ _ _ _ _ _ _ rfl)
  have h2 : q2 (ix5 z y x t w) = numF 2 z y x (t.val + w.val) :=
    quad_at _ _ _ _ z y x t w (numF 2 z y x) (vid_num _ _ _ _ _ _ _ _ rfl) (vid_num _ _ _ _ _ _ _ _ rfl) (vid_num _ _ _ _ _ _ _ _ rfl) (vid_num _ _ _ _ _ _ _ _ rfl)
  have h3 : q3 (ix5 z y x t w) = numF 3 z y x (t.val + w.val) :=
    quad_at _ _ _ _ z y x t w (numF 3 z y x) (vid_num _ _ _ _ _ _ _ _ rfl) (vid_num _ _ _ _ _ _ _ _ rfl) (vid_num _ _ _ _ _ _ _ _ rfl) (vid_num _ _ _ _ _ _ _ _ rfl)
  have h4 : q4 (ix5 z y x t w) = numF 4 z y x (t.val + w.val) :=
    quad_at _ _ _ _ z y x t w (numF 4 z y x) (vid_num _ _ _ _ _ _ _ _ rfl) (vid_num _ _ _ _ _ _ _ _ rfl) (vid_num _ _ _ _ _ _ _ _ rfl) (vid_num _ _ _ _ _ _ _ _ rfl)
  have h5 : q5 (ix5 z y x t w) = numF 5 z y x (t.val + w.val) :=
    quad_at _ _ _ _ z y x t w (numF 5 z y x) (vid_num _ _ _ _ _ _ _ _ rfl) (vid_num _ _ _ _ _ _ _ _ rfl) (vid_num _ _ _ _ _ _ _ _ rfl) (vid_num _ _ _ _ _ _ _ _ rfl)
  pointwise [val_main_v321, val_main_v315, val_main_v316, val_main_v317, val_main_v318, val_main_v319, val_main_v320]
  rw [v259_eq, v270_eq, v281_eq, v292_eq, v303_eq, v314_eq, h0, h1, h2, h3, h4, h5]
  have hd : ∀ k : ℕ, d.val = k → numF k z y x (t.val + w.val) = numF d.val z y x (t.val + w.val) := fun k h => by rw [h]
  (repeat' split) <;> exact hd _ (by omega)

end Cert.ReferenceIdeal.Own

end
-- ==== Proof.RefMasks.lean ====
/-
  The reference program's masks, at an index.
-/
module

public import proofs.«01_k».proof.Proof.Spec
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Own

open Cert.ReferenceIdeal Cert.ReferenceIdeal.Gen Cert.ReferenceIdeal.Read Cert.Spec
open Idealize.ShloMosaic Idealize.ShloMosaic.TcCoe Idealize.ShloMosaic.WordCmp Idealize.ShloMosaic.StableHlo
open Idealize.SL.Sem

/-! ## Masks -/

open Classical in
/-- The voxel is set. -/
theorem v1_at (X : FVec Ideal S4x48x48x48 .f32) (i : S4x48x48x48.Idx) :
    val_main_v1 (F := Ideal) X i = BitVec.ofBool (decide (half < X i)) := by
  pointwise [val_main_v1, val_main_v0, val_main_cst]

theorem v2_at (X : FVec Ideal S4x48x48x48 .f32) (n : Fin 4) (z y x : Fin 48) :
    val_main_v2 (F := Ideal) X (ix4 n z y x) = val_main_v1 (F := Ideal) X (ix4 n (prevC z) y x) := by
  pointwise [val_main_v2, val_main_call0_v0, val_main_call0_v1]
  exact roll_prev (fun z => val_main_v1 (F := Ideal) X (ix4 n z y x)) z _ _
theorem v3_at (X : FVec Ideal S4x48x48x48 .f32) (n : Fin 4) (z y x : Fin 48) :
    val_main_v3 (F := Ideal) X (ix4 n z y x) = val_main_v1 (F := Ideal) X (ix4 n (nextC z) y x) := by
  pointwise [val_main_v3, val_main_call1_v0, val_main_call1_v1]
  exact roll_next (fun z => val_main_v1 (F := Ideal) X (ix4 n z y x)) z _ _
theorem v4_at (X : FVec Ideal S4x48x48x48 .f32) (n : Fin 4) (z y x : Fin 48) :
    val_main_v4 (F := Ideal) X (ix4 n z y x) = val_main_v1 (F := Ideal) X (ix4 n z (prevC y) x) := by
  pointwise [val_main_v4, val_main_call2_v0, val_main_call2_v1]
  exact roll_prev (fun y => val_main_v1 (F := Ideal) X (ix4 n z y x)) y _ _
theorem v5_at (X : FVec Ideal S4x48x48x48 .f32) (n : Fin 4) (z y x : Fin 48) :
    val_main_v5 (F := Ideal) X (ix4 n z y x) = val_main_v1 (F := Ideal) X (ix4 n z (nextC y) x) := by
  pointwise [val_main_v5, val_main_call3_v0, val_main_call3_v1]
  exact roll_next (fun y => val_main_v1 (F := Ideal) X (ix4 n z y x)) y _ _
theorem v6_at (X : FVec Ideal S4x48x48x48 .f32) (n : Fin 4) (z y x : Fin 48) :
    val_main_v6 (F := Ideal) X (ix4 n z y x) = val_main_v1 (F := Ideal) X (ix4 n z y (prevC x)) := by
  pointwise [val_main_v6, val_main_call4_v0, val_main_call4_v1]
  exact roll_prev (fun x => val_main_v1 (F := Ideal) X (ix4 n z y x)) x _ _
theorem v7_at (X : FVec Ideal S4x48x48x48 .f32) (n : Fin 4) (z y x : Fin 48) :
    val_main_v7 (F := Ideal) X (ix4 n z y x) = val_main_v1 (F := Ideal) X (ix4 n z y (nextC x)) := by
  pointwise [val_main_v7, val_main_call5_v0, val_main_call5_v1]
  exact roll_next (fun x => val_main_v1 (F := Ideal) X (ix4 n z y x)) x _ _

open Classical in
/-- A voxel's bit and the complement of its neighbour's: whether the voxel is exposed. -/
theorem bit_exposed (V : Fin 48 → Fin 48 → Fin 48 → EReal) (d : ℕ) (z y x : Fin 48) (b : EReal) (hb : b = nbr V d z y x) :
    IntOp.andi (BitVec.ofBool (decide (half < V z y x))) (~~~ BitVec.ofBool (decide (half < b)))
      = BitVec.ofBool (decide (Exposed V d z y x)) := by
  subst hb
  unfold Exposed
  by_cases h1 : half < V z y x <;> by_cases h2 : half < nbr V d z y x <;> simp [h1, h2, not_le.mpr, not_lt.mp, IntOp.andi]

open Classical in
/-- The masks, at a batch, a direction and a voxel. -/
theorem v26_at (X : FVec Ideal S4x48x48x48 .f32) (n : Fin 4) (d : Fin 6) (z y x : Fin 48) :
    val_main_v26 (F := Ideal) X (ix5 n d z y x) = BitVec.ofBool (decide (Exposed (fun z y x => X (ix4 n z y x)) d.val z y x)) := by
  pointwise [val_main_v26, val_main_v20, val_main_v21, val_main_v22, val_main_v23, val_main_v24, val_main_v25, val_main_v9, val_main_v11,
    val_main_v13, val_main_v15, val_main_v17, val_main_v19, val_main_v8, val_main_v10, val_main_v12, val_main_v14, val_main_v16, val_main_v18]
  rw [v2_at, v3_at, v4_at, v5_at, v6_at, v7_at, v1_at, v1_at, v1_at, v1_at, v1_at, v1_at, v1_at]
  have h : ∀ (k : ℕ) (b : EReal), b = nbr (fun z y x => X (ix4 n z y x)) k z y x → d.val = k →
      IntOp.andi (BitVec.ofBool (decide (half < X (ix4 n z y x)))) (~~~ BitVec.ofBool (decide (half < b)))
        = BitVec.ofBool (decide (Exposed (fun z y x => X (ix4 n z y x)) d.val z y x)) := by
    intro k b hb hk
    rw [hk]
    exact bit_exposed (fun z y x => X (ix4 n z y x)) k z y x b hb
  split
  · exact h 0 _ rfl (by omega)
  split
  · exact h 1 _ rfl (by omega)
  split
  · exact h 2 _ rfl (by omega)
  split
  · exact h 3 _ rfl (by omega)
  split
  · exact h 4 _ rfl (by omega)
  · exact h 5 _ rfl (by omega)

end Cert.ReferenceIdeal.Own

end
-- ==== Proof.RefFaces.lean ====
/-
  The reference program's faces, at an index.
-/
module

public import proofs.«01_k».proof.Proof.RefQuads
public import proofs.«01_k».proof.Proof.RefMasks
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Own

open Cert.ReferenceIdeal Cert.ReferenceIdeal.Gen Cert.ReferenceIdeal.Read Cert.Spec
open Idealize.ShloMosaic Idealize.ShloMosaic.TcCoe Idealize.ShloMosaic.WordCmp Idealize.ShloMosaic.StableHlo
open Idealize.SL.Sem

/-- The corners' rows, at a face and a corner. -/
theorem v322_at (f : Fin 1327104) (w : Fin 3) :
    val_main_v322 (F := Ideal) (ix2 f w) = numF (f.val / 221184) (fz f.val) (fy f.val) (fx f.val) (f.val % 2 + w.val) := by
  refine Eq.trans ?_ (v321_at ⟨f.val / 221184, by omega⟩ (fz f.val) (fy f.val) (fx f.val) ⟨f.val % 2, by omega⟩ w)
  unfold val_main_v322
  generalize val_main_v321 (F := Ideal) = A
  refine shapeCast_apply A shapeCasts_S6x48x48x48x2x3_S1327104x3 _ _ ?_
  rw [rowMajor_val6 _ 663552 13824 288 6 3 rfl rfl rfl rfl rfl, rowMajor_val2 _ 3 rfl]
  show f.val / 221184 * 663552 + f.val / 4608 % 48 * 13824 + f.val / 96 % 48 * 288 + f.val / 2 % 48 * 6 + f.val % 2 * 3 + w.val = f.val * 3 + w.val
  omega

open Classical in
/-- The masks' rows, at a batch and a face. -/
theorem v326_at (X : FVec Ideal S4x48x48x48 .f32) (n : Fin 4) (f : Fin 1327104) :
    val_main_v326 (F := Ideal) X (ix2 n f)
      = BitVec.ofBool (decide (Exposed (fun z y x => X (ix4 n z y x)) (f.val / 221184) (fz f.val) (fy f.val) (fx f.val))) := by
  refine Eq.trans ?_ (v26_at X n ⟨f.val / 221184, by omega⟩ (fz f.val) (fy f.val) (fx f.val))
  have h6 : val_main_v326 (F := Ideal) X (ix2 n f)
      = val_main_v325 (F := Ideal) X (ix6 n ⟨f.val / 221184, by omega⟩ (fz f.val) (fy f.val) (fx f.val) ⟨f.val % 2, by omega⟩) := by
    unfold val_main_v326
    generalize val_main_v325 (F := Ideal) X = A
    refine shapeCast_apply A shapeCasts_S4x6x48x48x48x2_S4x1327104 _ _ ?_
    rw [rowMajor_val6 _ 1327104 221184 4608 96 2 rfl rfl rfl rfl rfl, rowMajor_val2 _ 1327104 rfl]
    show n.val * 1327104 + f.val / 221184 * 221184 + f.val / 4608 % 48 * 4608 + f.val / 96 % 48 * 96 + f.val / 2 % 48 * 2 + f.val % 2
      = n.val * 1327104 + f.val
    omega
  have h5 : ∀ (d : Fin 6) (z y x : Fin 48) (t : Fin 2),
      val_main_v325 (F := Ideal) X (ix6 n d z y x t) = val_main_v324 (F := Ideal) X (ix7 n d z y x 0 t) := by
    intro d z y x t
    unfold val_main_v325
    generalize val_main_v324 (F := Ideal) X = A
    refine shapeCast_apply A shapeCasts_S4x6x48x48x48x1x2_S4x6x48x48x48x2 _ _ ?_
    rw [rowMajor_val7 _ 1327104 221184 4608 96 2 2 rfl rfl rfl rfl rfl rfl, rowMajor_val6 _ 1327104 221184 4608 96 2 rfl rfl rfl rfl rfl]
    show n.val * 1327104 + d.val * 221184 + z.val * 4608 + y.val * 96 + x.val * 2 + 0 * 2 + t.val
      = n.val * 1327104 + d.val * 221184 + z.val * 4608 + y.val * 96 + x.val * 2 + t.val
    omega
  rw [h6, h5, val_main_v324_apply, val_main_v323_apply]
  refine congrArg (val_main_v26 (F := Ideal) X) (funext fun a => ?_)
  match a with
  | ⟨0, _⟩ => rfl
  | ⟨1, _⟩ => rfl
  | ⟨2, _⟩ => rfl
  | ⟨3, _⟩ => rfl
  | ⟨4, _⟩ => rfl

open Classical in
/-- The reference's faces. -/
theorem faces_at (X : FVec Ideal S4x48x48x48 .f32) (n : Fin 4) (f : Fin 1327104) (w : Fin 3) :
    val_main_v329 (F := Ideal) X (ix3 n f w) = faceAt X n f.val w.val := by
  have h1 : val_main_call6_v1 (F := Ideal) X (ix3 n f w) = val_main_v326 (F := Ideal) X (ix2 n f) := by
    rw [val_main_call6_v1_apply, val_main_v327_apply]
    refine congrArg (val_main_v326 (F := Ideal) X) (funext fun a => ?_)
    match a with
    | ⟨0, _⟩ => rfl
    | ⟨1, _⟩ => rfl
  have h2 : val_main_call6_v2 (F := Ideal) (ix3 n f w) = val_main_v322 (F := Ideal) (ix2 f w) := by
    rw [val_main_call6_v2_apply, val_main_v328_apply]
    refine congrArg (val_main_v322 (F := Ideal)) (funext fun a => ?_)
    match a with
    | ⟨0, _⟩ => rfl
    | ⟨1, _⟩ => rfl
  have h3 : val_main_call6_v3 (F := Ideal) (ix3 n f w) = 4294967295#32 := by
    rw [val_main_call6_v3_apply, val_main_call6_v0_apply]; rfl
  rw [val_main_v329_apply, h1, h2, h3, v326_at, v322_at]
  unfold faceAt face
  by_cases h : Exposed (fun z y x => X (ix4 n z y x)) (f.val / 221184) (fz f.val) (fy f.val) (fx f.val)
  · rw [decide_eq_true h, if_pos h]; rfl
  · rw [decide_eq_false h, if_neg h]; rfl

end Cert.ReferenceIdeal.Own

end
-- ==== Proof.RefVerts.lean ====
/-
  The reference program's vertices, at an index.
-/
module

public import proofs.«01_k».proof.Proof.Spec
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Own

open Cert.ReferenceIdeal Cert.ReferenceIdeal.Gen Cert.ReferenceIdeal.Read Cert.Spec
open Idealize.ShloMosaic Idealize.ShloMosaic.TcCoe Idealize.ShloMosaic.WordCmp Idealize.ShloMosaic.StableHlo
open Idealize.SL.Sem

/-- One coordinate of a grid point, less one half. -/
theorem coord_at (z y x : Fin 49) (a : Fin 3) :
    val_main_v348 (F := Ideal) (ix4 z y x a) = FloatOps.subf (F := Ideal) (φ := .f32)
      (FloatOps.sitofp .f32 (BitVec.ofNat 32 (if a.val = 0 then z.val else if a.val = 1 then y.val else x.val))) (FloatOps.ofBits .f32 0x3F000000#32) := by
  have hz : val_main_v338 (F := Ideal) (ix3 z y x) = FloatOps.subf (F := Ideal) (φ := .f32)
      (FloatOps.sitofp .f32 (BitVec.ofNat 32 z.val)) (FloatOps.ofBits .f32 0x3F000000#32) := by
    rw [val_main_v338_apply, val_main_v336_apply, val_main_v333_apply, val_main_v337_apply]; rfl
  have hy : val_main_v341 (F := Ideal) (ix3 z y x) = FloatOps.subf (F := Ideal) (φ := .f32)
      (FloatOps.sitofp .f32 (BitVec.ofNat 32 y.val)) (FloatOps.ofBits .f32 0x3F000000#32) := by
    rw [val_main_v341_apply, val_main_v339_apply, val_main_v334_apply, val_main_v340_apply]; rfl
  have hx : val_main_v344 (F := Ideal) (ix3 z y x) = FloatOps.subf (F := Ideal) (φ := .f32)
      (FloatOps.sitofp .f32 (BitVec.ofNat 32 x.val)) (FloatOps.ofBits .f32 0x3F000000#32) := by
    rw [val_main_v344_apply, val_main_v342_apply, val_main_v335_apply, val_main_v343_apply]; rfl
  have hl : val_main_v348 (F := Ideal) (ix4 z y x a) = if a.val < 1 then val_main_v338 (F := Ideal) (ix3 z y x)
      else if a.val - 1 < 1 then val_main_v341 (F := Ideal) (ix3 z y x) else val_main_v344 (F := Ideal) (ix3 z y x) := by
    pointwise [val_main_v348, val_main_v345, val_main_v346, val_main_v347]
    rfl
  rw [hl, hz, hy, hx]
  have ha : a.val = 0 ∨ a.val = 1 ∨ a.val = 2 := by omega
  rcases ha with h | h | h <;> rw [h] <;> rfl

/-- The reference's vertices. -/
theorem verts_at (n : Fin 4) (v : Fin 117649) (a : Fin 3) : val_main_v352 (F := Ideal) (ix3 n v a) = vertAt v.val a.val := by
  rw [val_main_v352_apply, val_main_v351_apply, val_main_v350_apply, val_main_v349_apply]
  refine Eq.trans (congrArg (val_main_v348 (F := Ideal)) (?_ : _ = ix4 ⟨v.val / 2401, by omega⟩ ⟨v.val / 49 % 49, by omega⟩ ⟨v.val % 49, by omega⟩ a)) ?_
  · funext k
    match k with
    | ⟨0, _⟩ => exact Fin.ext (by show (v.val * 3 + a.val) / 7203 = v.val / 2401; omega)
    | ⟨1, _⟩ => exact Fin.ext (by show (v.val * 3 + a.val) / 147 % 49 = v.val / 49 % 49; omega)
    | ⟨2, _⟩ => exact Fin.ext (by show (v.val * 3 + a.val) / 3 % 49 = v.val % 49; omega)
    | ⟨3, _⟩ => exact Fin.ext (by show (v.val * 3 + a.val) % 3 = a.val; omega)
  · exact coord_at _ _ _ a

end Cert.ReferenceIdeal.Own

end
-- ==== Proof.Agree.lean ====
/-
  The kernel program's results and the reference program's are the same arrays.
-/
module

public import proofs.«01_k».proof.Proof.KernelValue
public import proofs.«01_k».proof.Proof.RefFaces
public import proofs.«01_k».proof.Proof.RefVerts

@[expose] public section

set_option maxRecDepth 16384

noncomputable section

namespace Cert.Agree

open Idealize.ShloMosaic Idealize.ShloMosaic.TcCoe Idealize.SL.Sem Cert.Spec

/-- The faces agree: the reference's term of the voxels is what the kernel program ends with. -/
theorem faces (X : FVec Ideal ⟨4, ![4, 48, 48, 48]⟩ .f32) :
    Cert.ReferenceIdeal.Read.val_main_v329 (F := Ideal) X
      = Cert.KernelIdeal.Own.facesOut (Cert.KernelIdeal.Own.facesArr (Cert.KernelIdeal.Own.joinedM (Cert.KernelIdeal.Own.masks X))) := by
  funext i
  rw [eq_ix3 i]
  exact (Cert.ReferenceIdeal.Own.faces_at X (i 0) (i 1) (i 2)).trans (Cert.KernelIdeal.Own.faces_at X (i 0) (i 1) (i 2)).symm

/-- The vertices agree. -/
theorem verts : Cert.ReferenceIdeal.Read.val_main_v352 (F := Ideal) = Cert.KernelIdeal.Own.vertsOut Cert.KernelIdeal.Own.vertsArr := by
  funext i
  rw [eq_ix3 i]
  exact (Cert.ReferenceIdeal.Own.verts_at (i 0) (i 1) (i 2)).trans (Cert.KernelIdeal.Own.verts_at (i 0) (i 1) (i 2)).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Agree
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference program runs, leaves its argument as launched and every counter at zero. -/
theorem frame_reference : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

/-- The kernel program and the reference program end with the same vertices and the same faces. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Own.W4 m c Cert.KernelIdeal.main_v6, fun c => Cert.KernelIdeal.Own.W4 m c Cert.KernelIdeal.main_v5, ?_, ?_⟩
  · exact (θ_run _ _ _).mono (fun r h c => ⟨(h.1 c).2.2, (h.1 c).2.1, (h.1 c).1⟩) (Cert.KernelIdeal.Own.run m g)
  · refine (θ_run _ _ _).mono (fun r h c => ⟨(h c).1.trans ?_, (h c).2.1.trans ?_, (h c).2.2⟩) (Cert.ReferenceIdeal.Value.run m' g')
    · exact (Cert.ReferenceIdeal.Read.val_main_v352_eq (F := Ideal) (StableHlo.launchContents m' c)).trans
        (Cert.Agree.verts.trans (Cert.KernelIdeal.Own.verts_end m c).symm)
    · refine (Cert.ReferenceIdeal.Read.val_main_v329_eq (F := Ideal) (StableHlo.launchContents m' c)).trans ?_
      rw [StableHlo.launchContents_devRef, hm c]
      exact (Cert.Agree.faces _).trans (Cert.KernelIdeal.Own.faces_end m c).symm

theorem claim : Cert.Claim := ⟨Cert.Kernel.Gen.facts, Cert.KernelIdeal.Gen.facts, Cert.ReferenceIdeal.Gen.facts,
  fun m g _ => Cert.Kernel.Own.frame m g,
  fun m g _ => (θ_run _ _ _).mono (fun _ h => ⟨fun c => (h.1 c).1, h.2⟩) (Cert.KernelIdeal.Own.run m g),
  frame_reference,
  trivial,
  algebraic⟩

end Cert.Proof

end
